-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_nonneg_KernelIdeal [hPre_nonneg_KernelIdeal : Cert.Pre_nonneg_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_nonneg_KernelIdeal.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_nonneg_ReferenceIdeal [hPre_nonneg_ReferenceIdeal : Cert.Pre_nonneg_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_nonneg_ReferenceIdeal.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_nonneg_KernelIdeal [hKernelIdeal : Cert.KernelIdeal.Facts] [hPre_nonneg_KernelIdeal : Cert.Pre_nonneg_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_nonneg_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_nonneg_ReferenceIdeal [hReferenceIdeal : Cert.ReferenceIdeal.Facts] [hPre_nonneg_ReferenceIdeal : Cert.Pre_nonneg_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_nonneg_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_nonneg_KernelIdeal [hKernelIdeal : Cert.KernelIdeal.Facts] [hReferenceIdeal : Cert.ReferenceIdeal.Facts] [hPre_nonneg_KernelIdeal : Cert.Pre_nonneg_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_nonneg_KernelIdeal m →
    (∀ c : Dev Cert.KernelIdeal.nD,
      m ((c.tc : Thread Cert.KernelIdeal.nD Cert.KernelIdeal.τ).loc Cert.KernelIdeal.main_arg0) = Layout.block ⟨2, ![512, 512]⟩ ⟨2, ![8192, 512]⟩ 0 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 512]⟩ ⟨2, ![8192, 512]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3_3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_nonneg_KernelIdeal : Cert.Pre_nonneg_KernelIdeal.Facts) (hPre_nonneg_ReferenceIdeal : Cert.Pre_nonneg_ReferenceIdeal.Facts),
    quiescent_Kernel (hKernel := hKernel)
    ∧ quiescent_KernelIdeal (hKernelIdeal := hKernelIdeal)
    ∧ quiescent_KernelIdeal_pre_nonneg_KernelIdeal (hKernelIdeal := hKernelIdeal) (hPre_nonneg_KernelIdeal := hPre_nonneg_KernelIdeal)
    ∧ quiescent_ReferenceIdeal (hReferenceIdeal := hReferenceIdeal)
    ∧ quiescent_ReferenceIdeal_pre_nonneg_ReferenceIdeal (hReferenceIdeal := hReferenceIdeal) (hPre_nonneg_ReferenceIdeal := hPre_nonneg_ReferenceIdeal)
    ∧ preserves_Kernel_KernelIdeal
    ∧ algebraic_KernelIdeal_ReferenceIdeal_pre_nonneg_KernelIdeal (hKernelIdeal := hKernelIdeal) (hReferenceIdeal := hReferenceIdeal) (hPre_nonneg_KernelIdeal := hPre_nonneg_KernelIdeal)
-- ==== Pre_nonneg_KernelIdeal.lean ====
abbrev S512x512 : Shape := ⟨2, ![512, 512]⟩
abbrev S_ : Shape := ⟨0, ![]⟩

class Facts : Prop where
  bcast_S_S512x512 : S_.BroadcastsInDim S512x512 (![] : Fin 0 → Fin S512x512.rank)

variable [Facts]

def fn {F : FTy → Type} [FloatOps F] (main_arg0 : FVec F S512x512 .bf16) : IVec S512x512 1 :=
  let main_cst : FVec F S_ .bf16 := constant S_ .bf16 0x0000#16
  let main_v0 : FVec F S512x512 .bf16 := broadcastInDim S512x512 ![] bcast_S_S512x512 main_cst
  let main_v1 : IVec S512x512 1 := cmpf .oge main_arg0 main_v0
  main_v1
-- ==== Pre_nonneg_ReferenceIdeal.lean ====
abbrev S8192x512 : Shape := ⟨2, ![8192, 512]⟩
abbrev S_ : Shape := ⟨0, ![]⟩

class Facts : Prop where
  bcast_S_S8192x512 : S_.BroadcastsInDim S8192x512 (![] : Fin 0 → Fin S8192x512.rank)

variable [Facts]

def fn {F : FTy → Type} [FloatOps F] (main_arg0 : FVec F S8192x512 .bf16) : IVec S8192x512 1 :=
  let main_cst : FVec F S_ .bf16 := constant S_ .bf16 0x0000#16
  let main_v0 : FVec F S8192x512 .bf16 := broadcastInDim S8192x512 ![] bcast_S_S8192x512 main_cst
  let main_v1 : IVec S8192x512 1 := cmpf .oge main_arg0 main_v0
  main_v1
-- ==== Kernel.lean ====
abbrev S512x512 : Shape := ⟨2, ![512, 512]⟩
abbrev S15x1x512 : Shape := ⟨3, ![15, 1, 512]⟩
abbrev S1x512 : Shape := ⟨2, ![1, 512]⟩
abbrev S15 : Shape := ⟨1, ![15]⟩
abbrev S_ : Shape := ⟨0, ![]⟩
abbrev S256x512 : Shape := ⟨2, ![256, 512]⟩
abbrev S128x512 : Shape := ⟨2, ![128, 512]⟩
abbrev S64x512 : Shape := ⟨2, ![64, 512]⟩
abbrev S32x512 : Shape := ⟨2, ![32, 512]⟩
abbrev S16x512 : Shape := ⟨2, ![16, 512]⟩
abbrev S8x512 : Shape := ⟨2, ![8, 512]⟩
abbrev S4x512 : Shape := ⟨2, ![4, 512]⟩
abbrev S2x512 : Shape := ⟨2, ![2, 512]⟩
abbrev S1 : Shape := ⟨1, ![1]⟩
abbrev S1x1x512 : Shape := ⟨3, ![1, 1, 512]⟩

abbrev nBuf : Space → Nat
  | .hbm => 2
  | .vmem => 4
  | .smem => 0
  | _ => 0

abbrev bufTy : (tb : Table) → Fin (tcTables nBuf tb) → BufTy
  | .hbm, ⟨0, _⟩ => ⟨S512x512, .bf16⟩
  | .hbm, ⟨1, _⟩ => ⟨S512x512, .f32⟩
  | .local _ .vmem, ⟨0, _⟩ => ⟨S512x512, .bf16⟩
  | .local _ .vmem, ⟨1, _⟩ => ⟨S512x512, .f32⟩
  | .local _ .vmem, ⟨2, _⟩ => ⟨S15x1x512, .f32⟩
  | .local _ .vmem, ⟨3, _⟩ => ⟨S1x512, .f32⟩
  | _, _ => ⟨S512x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  (ofTc nBuf bufTy 1 32 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 1 := Scalar.cmpi .sge v2 c1_i32_0
  let v5 : BitVec 32 := Scalar.extui v4
  let c0_i32 : BitVec 32 := 0#32
  let v6 : BitVec 1 := Scalar.cmpi .ne v5 c0_i32
  v6

def k0_dev1 (d0 : Dev nD) : Nat :=
  let c0_i32_250 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_247 : BitVec 32 := 1#32
  let v411 : BitVec 32 := Scalar.subi v2 c1_i32_247
  let c1_i32_249 : BitVec 32 := 1#32
  let v412 : BitVec 32 := Scalar.muli v411 c1_i32_249
  let v413 : BitVec 32 := Scalar.addi c0_i32_250 v412
  v413.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v7 : BitVec 1 := Scalar.cmpi .sge v2 c2_i32
  let v8 : BitVec 32 := Scalar.extui v7
  let c0_i32_1 : BitVec 32 := 0#32
  let v9 : BitVec 1 := Scalar.cmpi .ne v8 c0_i32_1
  v9

def k0_dev2 (d0 : Dev nD) : Nat :=
  let c0_i32_250 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_247 : BitVec 32 := 2#32
  let v411 : BitVec 32 := Scalar.subi v2 c2_i32_247
  let c1_i32_249 : BitVec 32 := 1#32
  let v412 : BitVec 32 := Scalar.muli v411 c1_i32_249
  let v413 : BitVec 32 := Scalar.addi c0_i32_250 v412
  v413.toNat
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v10 : BitVec 1 := Scalar.cmpi .sge v2 c3_i32
  let v11 : BitVec 32 := Scalar.extui v10
  let c0_i32_2 : BitVec 32 := 0#32
  let v12 : BitVec 1 := Scalar.cmpi .ne v11 c0_i32_2
  v12

def k0_dev3 (d0 : Dev nD) : Nat :=
  let c0_i32_250 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_247 : BitVec 32 := 3#32
  let v411 : BitVec 32 := Scalar.subi v2 c3_i32_247
  let c1_i32_249 : BitVec 32 := 1#32
  let v412 : BitVec 32 := Scalar.muli v411 c1_i32_249
  let v413 : BitVec 32 := Scalar.addi c0_i32_250 v412
  v413.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v13 : BitVec 1 := Scalar.cmpi .sge v2 c4_i32
  let v14 : BitVec 32 := Scalar.extui v13
  let c0_i32_3 : BitVec 32 := 0#32
  let v15 : BitVec 1 := Scalar.cmpi .ne v14 c0_i32_3
  v15

def k0_dev4 (d0 : Dev nD) : Nat :=
  let c0_i32_250 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_247 : BitVec 32 := 4#32
  let v411 : BitVec 32 := Scalar.subi v2 c4_i32_247
  let c1_i32_249 : BitVec 32 := 1#32
  let v412 : BitVec 32 := Scalar.muli v411 c1_i32_249
  let v413 : BitVec 32 := Scalar.addi c0_i32_250 v412
  v413.toNat
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v16 : BitVec 1 := Scalar.cmpi .sge v2 c5_i32
  let v17 : BitVec 32 := Scalar.extui v16
  let c0_i32_4 : BitVec 32 := 0#32
  let v18 : BitVec 1 := Scalar.cmpi .ne v17 c0_i32_4
  v18

def k0_dev5 (d0 : Dev nD) : Nat :=
  let c0_i32_250 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_247 : BitVec 32 := 5#32
  let v411 : BitVec 32 := Scalar.subi v2 c5_i32_247
  let c1_i32_249 : BitVec 32 := 1#32
  let v412 : BitVec 32 := Scalar.muli v411 c1_i32_249
  let v413 : BitVec 32 := Scalar.addi c0_i32_250 v412
  v413.toNat
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v19 : BitVec 1 := Scalar.cmpi .sge v2 c6_i32
  let v20 : BitVec 32 := Scalar.extui v19
  let c0_i32_5 : BitVec 32 := 0#32
  let v21 : BitVec 1 := Scalar.cmpi .ne v20 c0_i32_5
  v21

def k0_dev6 (d0 : Dev nD) : Nat :=
  let c0_i32_250 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_247 : BitVec 32 := 6#32
  let v411 : BitVec 32 := Scalar.subi v2 c6_i32_247
  let c1_i32_249 : BitVec 32 := 1#32
  let v412 : BitVec 32 := Scalar.muli v411 c1_i32_249
  let v413 : BitVec 32 := Scalar.addi c0_i32_250 v412
  v413.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v22 : BitVec 1 := Scalar.cmpi .sge v2 c7_i32
  let v23 : BitVec 32 := Scalar.extui v22
  let c0_i32_6 : BitVec 32 := 0#32
  let v24 : BitVec 1 := Scalar.cmpi .ne v23 c0_i32_6
  v24

def k0_dev7 (d0 : Dev nD) : Nat :=
  let c0_i32_250 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_247 : BitVec 32 := 7#32
  let v411 : BitVec 32 := Scalar.subi v2 c7_i32_247
  let c1_i32_249 : BitVec 32 := 1#32
  let v412 : BitVec 32 := Scalar.muli v411 c1_i32_249
  let v413 : BitVec 32 := Scalar.addi c0_i32_250 v412
  v413.toNat
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v25 : BitVec 1 := Scalar.cmpi .sge v2 c8_i32
  let v26 : BitVec 32 := Scalar.extui v25
  let c0_i32_7 : BitVec 32 := 0#32
  let v27 : BitVec 1 := Scalar.cmpi .ne v26 c0_i32_7
  v27

def k0_dev8 (d0 : Dev nD) : Nat :=
  let c0_i32_250 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_247 : BitVec 32 := 8#32
  let v411 : BitVec 32 := Scalar.subi v2 c8_i32_247
  let c1_i32_249 : BitVec 32 := 1#32
  let v412 : BitVec 32 := Scalar.muli v411 c1_i32_249
  let v413 : BitVec 32 := Scalar.addi c0_i32_250 v412
  v413.toNat
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v28 : BitVec 1 := Scalar.cmpi .sge v2 c9_i32
  let v29 : BitVec 32 := Scalar.extui v28
  let c0_i32_8 : BitVec 32 := 0#32
  let v30 : BitVec 1 := Scalar.cmpi .ne v29 c0_i32_8
  v30

def k0_dev9 (d0 : Dev nD) : Nat :=
  let c0_i32_250 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_247 : BitVec 32 := 9#32
  let v411 : BitVec 32 := Scalar.subi v2 c9_i32_247
  let c1_i32_249 : BitVec 32 := 1#32
  let v412 : BitVec 32 := Scalar.muli v411 c1_i32_249
  let v413 : BitVec 32 := Scalar.addi c0_i32_250 v412
  v413.toNat
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v31 : BitVec 1 := Scalar.cmpi .sge v2 c10_i32
  let v32 : BitVec 32 := Scalar.extui v31
  let c0_i32_9 : BitVec 32 := 0#32
  let v33 : BitVec 1 := Scalar.cmpi .ne v32 c0_i32_9
  v33

def k0_dev10 (d0 : Dev nD) : Nat :=
  let c0_i32_250 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_247 : BitVec 32 := 10#32
  let v411 : BitVec 32 := Scalar.subi v2 c10_i32_247
  let c1_i32_249 : BitVec 32 := 1#32
  let v412 : BitVec 32 := Scalar.muli v411 c1_i32_249
  let v413 : BitVec 32 := Scalar.addi c0_i32_250 v412
  v413.toNat
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v34 : BitVec 1 := Scalar.cmpi .sge v2 c11_i32
  let v35 : BitVec 32 := Scalar.extui v34
  let c0_i32_10 : BitVec 32 := 0#32
  let v36 : BitVec 1 := Scalar.cmpi .ne v35 c0_i32_10
  v36

def k0_dev11 (d0 : Dev nD) : Nat :=
  let c0_i32_250 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_247 : BitVec 32 := 11#32
  let v411 : BitVec 32 := Scalar.subi v2 c11_i32_247
  let c1_i32_249 : BitVec 32 := 1#32
  let v412 : BitVec 32 := Scalar.muli v411 c1_i32_249
  let v413 : BitVec 32 := Scalar.addi c0_i32_250 v412
  v413.toNat
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v37 : BitVec 1 := Scalar.cmpi .sge v2 c12_i32
  let v38 : BitVec 32 := Scalar.extui v37
  let c0_i32_11 : BitVec 32 := 0#32
  let v39 : BitVec 1 := Scalar.cmpi .ne v38 c0_i32_11
  v39

def k0_dev12 (d0 : Dev nD) : Nat :=
  let c0_i32_250 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_247 : BitVec 32 := 12#32
  let v411 : BitVec 32 := Scalar.subi v2 c12_i32_247
  let c1_i32_249 : BitVec 32 := 1#32
  let v412 : BitVec 32 := Scalar.muli v411 c1_i32_249
  let v413 : BitVec 32 := Scalar.addi c0_i32_250 v412
  v413.toNat
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v40 : BitVec 1 := Scalar.cmpi .sge v2 c13_i32
  let v41 : BitVec 32 := Scalar.extui v40
  let c0_i32_12 : BitVec 32 := 0#32
  let v42 : BitVec 1 := Scalar.cmpi .ne v41 c0_i32_12
  v42

def k0_dev13 (d0 : Dev nD) : Nat :=
  let c0_i32_250 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_247 : BitVec 32 := 13#32
  let v411 : BitVec 32 := Scalar.subi v2 c13_i32_247
  let c1_i32_249 : BitVec 32 := 1#32
  let v412 : BitVec 32 := Scalar.muli v411 c1_i32_249
  let v413 : BitVec 32 := Scalar.addi c0_i32_250 v412
  v413.toNat
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v43 : BitVec 1 := Scalar.cmpi .sge v2 c14_i32
  let v44 : BitVec 32 := Scalar.extui v43
  let c0_i32_13 : BitVec 32 := 0#32
  let v45 : BitVec 1 := Scalar.cmpi .ne v44 c0_i32_13
  v45

def k0_dev14 (d0 : Dev nD) : Nat :=
  let c0_i32_250 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_247 : BitVec 32 := 14#32
  let v411 : BitVec 32 := Scalar.subi v2 c14_i32_247
  let c1_i32_249 : BitVec 32 := 1#32
  let v412 : BitVec 32 := Scalar.muli v411 c1_i32_249
  let v413 : BitVec 32 := Scalar.addi c0_i32_250 v412
  v413.toNat
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v46 : BitVec 1 := Scalar.cmpi .sge v2 c15_i32
  let v47 : BitVec 32 := Scalar.extui v46
  let c0_i32_14 : BitVec 32 := 0#32
  let v48 : BitVec 1 := Scalar.cmpi .ne v47 c0_i32_14
  v48

def k0_dev15 (d0 : Dev nD) : Nat :=
  let c0_i32_250 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_247 : BitVec 32 := 15#32
  let v411 : BitVec 32 := Scalar.subi v2 c15_i32_247
  let c1_i32_249 : BitVec 32 := 1#32
  let v412 : BitVec 32 := Scalar.muli v411 c1_i32_249
  let v413 : BitVec 32 := Scalar.addi c0_i32_250 v412
  v413.toNat
def k0_cond31 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_63 : BitVec 32 := 1#32
  let v142 : BitVec 32 := Scalar.addi v2 c1_i32_63
  let c16_i32_64 : BitVec 32 := 16#32
  let v143 : BitVec 1 := Scalar.cmpi .slt v142 c16_i32_64
  let v144 : BitVec 32 := Scalar.extui v143
  let c0_i32_65 : BitVec 32 := 0#32
  let v145 : BitVec 1 := Scalar.cmpi .ne v144 c0_i32_65
  v145

def k0_dev16 (d0 : Dev nD) : Nat :=
  let c0_i32_252 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_247 : BitVec 32 := 1#32
  let v411 : BitVec 32 := Scalar.addi v2 c1_i32_247
  let c1_i32_251 : BitVec 32 := 1#32
  let v412 : BitVec 32 := Scalar.muli v411 c1_i32_251
  let v413 : BitVec 32 := Scalar.addi c0_i32_252 v412
  v413.toNat
def k0_cond32 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_66 : BitVec 32 := 2#32
  let v146 : BitVec 32 := Scalar.addi v2 c2_i32_66
  let c16_i32_67 : BitVec 32 := 16#32
  let v147 : BitVec 1 := Scalar.cmpi .slt v146 c16_i32_67
  let v148 : BitVec 32 := Scalar.extui v147
  let c0_i32_68 : BitVec 32 := 0#32
  let v149 : BitVec 1 := Scalar.cmpi .ne v148 c0_i32_68
  v149

def k0_dev17 (d0 : Dev nD) : Nat :=
  let c0_i32_252 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_247 : BitVec 32 := 2#32
  let v411 : BitVec 32 := Scalar.addi v2 c2_i32_247
  let c1_i32_251 : BitVec 32 := 1#32
  let v412 : BitVec 32 := Scalar.muli v411 c1_i32_251
  let v413 : BitVec 32 := Scalar.addi c0_i32_252 v412
  v413.toNat
def k0_cond33 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_69 : BitVec 32 := 3#32
  let v150 : BitVec 32 := Scalar.addi v2 c3_i32_69
  let c16_i32_70 : BitVec 32 := 16#32
  let v151 : BitVec 1 := Scalar.cmpi .slt v150 c16_i32_70
  let v152 : BitVec 32 := Scalar.extui v151
  let c0_i32_71 : BitVec 32 := 0#32
  let v153 : BitVec 1 := Scalar.cmpi .ne v152 c0_i32_71
  v153

def k0_dev18 (d0 : Dev nD) : Nat :=
  let c0_i32_252 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_247 : BitVec 32 := 3#32
  let v411 : BitVec 32 := Scalar.addi v2 c3_i32_247
  let c1_i32_251 : BitVec 32 := 1#32
  let v412 : BitVec 32 := Scalar.muli v411 c1_i32_251
  let v413 : BitVec 32 := Scalar.addi c0_i32_252 v412
  v413.toNat
def k0_cond34 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_72 : BitVec 32 := 4#32
  let v154 : BitVec 32 := Scalar.addi v2 c4_i32_72
  let c16_i32_73 : BitVec 32 := 16#32
  let v155 : BitVec 1 := Scalar.cmpi .slt v154 c16_i32_73
  let v156 : BitVec 32 := Scalar.extui v155
  let c0_i32_74 : BitVec 32 := 0#32
  let v157 : BitVec 1 := Scalar.cmpi .ne v156 c0_i32_74
  v157

def k0_dev19 (d0 : Dev nD) : Nat :=
  let c0_i32_252 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_247 : BitVec 32 := 4#32
  let v411 : BitVec 32 := Scalar.addi v2 c4_i32_247
  let c1_i32_251 : BitVec 32 := 1#32
  let v412 : BitVec 32 := Scalar.muli v411 c1_i32_251
  let v413 : BitVec 32 := Scalar.addi c0_i32_252 v412
  v413.toNat
def k0_cond35 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_75 : BitVec 32 := 5#32
  let v158 : BitVec 32 := Scalar.addi v2 c5_i32_75
  let c16_i32_76 : BitVec 32 := 16#32
  let v159 : BitVec 1 := Scalar.cmpi .slt v158 c16_i32_76
  let v160 : BitVec 32 := Scalar.extui v159
  let c0_i32_77 : BitVec 32 := 0#32
  let v161 : BitVec 1 := Scalar.cmpi .ne v160 c0_i32_77
  v161

def k0_dev20 (d0 : Dev nD) : Nat :=
  let c0_i32_252 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_247 : BitVec 32 := 5#32
  let v411 : BitVec 32 := Scalar.addi v2 c5_i32_247
  let c1_i32_251 : BitVec 32 := 1#32
  let v412 : BitVec 32 := Scalar.muli v411 c1_i32_251
  let v413 : BitVec 32 := Scalar.addi c0_i32_252 v412
  v413.toNat
def k0_cond36 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_78 : BitVec 32 := 6#32
  let v162 : BitVec 32 := Scalar.addi v2 c6_i32_78
  let c16_i32_79 : BitVec 32 := 16#32
  let v163 : BitVec 1 := Scalar.cmpi .slt v162 c16_i32_79
  let v164 : BitVec 32 := Scalar.extui v163
  let c0_i32_80 : BitVec 32 := 0#32
  let v165 : BitVec 1 := Scalar.cmpi .ne v164 c0_i32_80
  v165

def k0_dev21 (d0 : Dev nD) : Nat :=
  let c0_i32_252 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_247 : BitVec 32 := 6#32
  let v411 : BitVec 32 := Scalar.addi v2 c6_i32_247
  let c1_i32_251 : BitVec 32 := 1#32
  let v412 : BitVec 32 := Scalar.muli v411 c1_i32_251
  let v413 : BitVec 32 := Scalar.addi c0_i32_252 v412
  v413.toNat
def k0_cond37 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_81 : BitVec 32 := 7#32
  let v166 : BitVec 32 := Scalar.addi v2 c7_i32_81
  let c16_i32_82 : BitVec 32 := 16#32
  let v167 : BitVec 1 := Scalar.cmpi .slt v166 c16_i32_82
  let v168 : BitVec 32 := Scalar.extui v167
  let c0_i32_83 : BitVec 32 := 0#32
  let v169 : BitVec 1 := Scalar.cmpi .ne v168 c0_i32_83
  v169

def k0_dev22 (d0 : Dev nD) : Nat :=
  let c0_i32_252 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_247 : BitVec 32 := 7#32
  let v411 : BitVec 32 := Scalar.addi v2 c7_i32_247
  let c1_i32_251 : BitVec 32 := 1#32
  let v412 : BitVec 32 := Scalar.muli v411 c1_i32_251
  let v413 : BitVec 32 := Scalar.addi c0_i32_252 v412
  v413.toNat
def k0_cond38 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_84 : BitVec 32 := 8#32
  let v170 : BitVec 32 := Scalar.addi v2 c8_i32_84
  let c16_i32_85 : BitVec 32 := 16#32
  let v171 : BitVec 1 := Scalar.cmpi .slt v170 c16_i32_85
  let v172 : BitVec 32 := Scalar.extui v171
  let c0_i32_86 : BitVec 32 := 0#32
  let v173 : BitVec 1 := Scalar.cmpi .ne v172 c0_i32_86
  v173

def k0_dev23 (d0 : Dev nD) : Nat :=
  let c0_i32_252 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_247 : BitVec 32 := 8#32
  let v411 : BitVec 32 := Scalar.addi v2 c8_i32_247
  let c1_i32_251 : BitVec 32 := 1#32
  let v412 : BitVec 32 := Scalar.muli v411 c1_i32_251
  let v413 : BitVec 32 := Scalar.addi c0_i32_252 v412
  v413.toNat
def k0_cond39 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_87 : BitVec 32 := 9#32
  let v174 : BitVec 32 := Scalar.addi v2 c9_i32_87
  let c16_i32_88 : BitVec 32 := 16#32
  let v175 : BitVec 1 := Scalar.cmpi .slt v174 c16_i32_88
  let v176 : BitVec 32 := Scalar.extui v175
  let c0_i32_89 : BitVec 32 := 0#32
  let v177 : BitVec 1 := Scalar.cmpi .ne v176 c0_i32_89
  v177

def k0_dev24 (d0 : Dev nD) : Nat :=
  let c0_i32_252 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_247 : BitVec 32 := 9#32
  let v411 : BitVec 32 := Scalar.addi v2 c9_i32_247
  let c1_i32_251 : BitVec 32 := 1#32
  let v412 : BitVec 32 := Scalar.muli v411 c1_i32_251
  let v413 : BitVec 32 := Scalar.addi c0_i32_252 v412
  v413.toNat
def k0_cond40 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_90 : BitVec 32 := 10#32
  let v178 : BitVec 32 := Scalar.addi v2 c10_i32_90
  let c16_i32_91 : BitVec 32 := 16#32
  let v179 : BitVec 1 := Scalar.cmpi .slt v178 c16_i32_91
  let v180 : BitVec 32 := Scalar.extui v179
  let c0_i32_92 : BitVec 32 := 0#32
  let v181 : BitVec 1 := Scalar.cmpi .ne v180 c0_i32_92
  v181

def k0_dev25 (d0 : Dev nD) : Nat :=
  let c0_i32_252 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_247 : BitVec 32 := 10#32
  let v411 : BitVec 32 := Scalar.addi v2 c10_i32_247
  let c1_i32_251 : BitVec 32 := 1#32
  let v412 : BitVec 32 := Scalar.muli v411 c1_i32_251
  let v413 : BitVec 32 := Scalar.addi c0_i32_252 v412
  v413.toNat
def k0_cond41 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_93 : BitVec 32 := 11#32
  let v182 : BitVec 32 := Scalar.addi v2 c11_i32_93
  let c16_i32_94 : BitVec 32 := 16#32
  let v183 : BitVec 1 := Scalar.cmpi .slt v182 c16_i32_94
  let v184 : BitVec 32 := Scalar.extui v183
  let c0_i32_95 : BitVec 32 := 0#32
  let v185 : BitVec 1 := Scalar.cmpi .ne v184 c0_i32_95
  v185

def k0_dev26 (d0 : Dev nD) : Nat :=
  let c0_i32_252 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_247 : BitVec 32 := 11#32
  let v411 : BitVec 32 := Scalar.addi v2 c11_i32_247
  let c1_i32_251 : BitVec 32 := 1#32
  let v412 : BitVec 32 := Scalar.muli v411 c1_i32_251
  let v413 : BitVec 32 := Scalar.addi c0_i32_252 v412
  v413.toNat
def k0_cond42 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_96 : BitVec 32 := 12#32
  let v186 : BitVec 32 := Scalar.addi v2 c12_i32_96
  let c16_i32_97 : BitVec 32 := 16#32
  let v187 : BitVec 1 := Scalar.cmpi .slt v186 c16_i32_97
  let v188 : BitVec 32 := Scalar.extui v187
  let c0_i32_98 : BitVec 32 := 0#32
  let v189 : BitVec 1 := Scalar.cmpi .ne v188 c0_i32_98
  v189

def k0_dev27 (d0 : Dev nD) : Nat :=
  let c0_i32_252 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_247 : BitVec 32 := 12#32
  let v411 : BitVec 32 := Scalar.addi v2 c12_i32_247
  let c1_i32_251 : BitVec 32 := 1#32
  let v412 : BitVec 32 := Scalar.muli v411 c1_i32_251
  let v413 : BitVec 32 := Scalar.addi c0_i32_252 v412
  v413.toNat
def k0_cond43 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_99 : BitVec 32 := 13#32
  let v190 : BitVec 32 := Scalar.addi v2 c13_i32_99
  let c16_i32_100 : BitVec 32 := 16#32
  let v191 : BitVec 1 := Scalar.cmpi .slt v190 c16_i32_100
  let v192 : BitVec 32 := Scalar.extui v191
  let c0_i32_101 : BitVec 32 := 0#32
  let v193 : BitVec 1 := Scalar.cmpi .ne v192 c0_i32_101
  v193

def k0_dev28 (d0 : Dev nD) : Nat :=
  let c0_i32_252 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_247 : BitVec 32 := 13#32
  let v411 : BitVec 32 := Scalar.addi v2 c13_i32_247
  let c1_i32_251 : BitVec 32 := 1#32
  let v412 : BitVec 32 := Scalar.muli v411 c1_i32_251
  let v413 : BitVec 32 := Scalar.addi c0_i32_252 v412
  v413.toNat
def k0_cond44 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_102 : BitVec 32 := 14#32
  let v194 : BitVec 32 := Scalar.addi v2 c14_i32_102
  let c16_i32_103 : BitVec 32 := 16#32
  let v195 : BitVec 1 := Scalar.cmpi .slt v194 c16_i32_103
  let v196 : BitVec 32 := Scalar.extui v195
  let c0_i32_104 : BitVec 32 := 0#32
  let v197 : BitVec 1 := Scalar.cmpi .ne v196 c0_i32_104
  v197

def k0_dev29 (d0 : Dev nD) : Nat :=
  let c0_i32_252 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_247 : BitVec 32 := 14#32
  let v411 : BitVec 32 := Scalar.addi v2 c14_i32_247
  let c1_i32_251 : BitVec 32 := 1#32
  let v412 : BitVec 32 := Scalar.muli v411 c1_i32_251
  let v413 : BitVec 32 := Scalar.addi c0_i32_252 v412
  v413.toNat
def k0_cond45 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_105 : BitVec 32 := 15#32
  let v198 : BitVec 32 := Scalar.addi v2 c15_i32_105
  let c16_i32_106 : BitVec 32 := 16#32
  let v199 : BitVec 1 := Scalar.cmpi .slt v198 c16_i32_106
  let v200 : BitVec 32 := Scalar.extui v199
  let c0_i32_107 : BitVec 32 := 0#32
  let v201 : BitVec 1 := Scalar.cmpi .ne v200 c0_i32_107
  v201

def k0_dev30 (d0 : Dev nD) : Nat :=
  let c0_i32_252 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_247 : BitVec 32 := 15#32
  let v411 : BitVec 32 := Scalar.addi v2 c15_i32_247
  let c1_i32_251 : BitVec 32 := 1#32
  let v412 : BitVec 32 := Scalar.muli v411 c1_i32_251
  let v413 : BitVec 32 := Scalar.addi c0_i32_252 v412
  v413.toNat
abbrev stage0_0 : Fin 1 → Memref sig .tc .vmem S512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8192x512 : Shape := ⟨2, ![8192, 512]⟩
abbrev S_ : Shape := ⟨0, ![]⟩
abbrev S512 : Shape := ⟨1, ![512]⟩
abbrev S1x512 : Shape := ⟨2, ![1, 512]⟩

abbrev nBuf : Space → Nat
  | .hbm => 22
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .f32⟩
  | .hbm, ⟨2, _⟩ => ⟨S_, .f32⟩
  | .hbm, ⟨3, _⟩ => ⟨S512, .f32⟩
  | .hbm, ⟨4, _⟩ => ⟨S_, .f32⟩
  | .hbm, ⟨5, _⟩ => ⟨S8192x512, .f32⟩
  | .hbm, ⟨6, _⟩ => ⟨S_, .i32⟩
  | .hbm, ⟨7, _⟩ => ⟨S8192x512, .f32⟩
  | .hbm, ⟨8, _⟩ => ⟨S_, .i32⟩
  | .hbm, ⟨9, _⟩ => ⟨S512, .f32⟩
  | .hbm, ⟨10, _⟩ => ⟨S8192x512, .f32⟩
  | .hbm, ⟨11, _⟩ => ⟨S_, .i32⟩
  | .hbm, ⟨12, _⟩ => ⟨S_, .i1⟩
  | .hbm, ⟨13, _⟩ => ⟨S_, .i32⟩
  | .hbm, ⟨14, _⟩ => ⟨S1x512, .f32⟩
  | .hbm, ⟨15, _⟩ => ⟨S512, .f32⟩
  | .hbm, ⟨16, _⟩ => ⟨S512, .f32⟩
  | .hbm, ⟨17, _⟩ => ⟨S1x512, .f32⟩
  | .hbm, ⟨18, _⟩ => ⟨S_, .i32⟩
  | .hbm, ⟨19, _⟩ => ⟨S8192x512, .f32⟩
  | .hbm, ⟨20, _⟩ => ⟨S_, .i32⟩
  | .hbm, ⟨21, _⟩ => ⟨S_, .i32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_c : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_while0c_c_4 : Ref sig .tc := ⟨.hbm, 11, rfl⟩
abbrev main_while0c_v4 : Ref sig .tc := ⟨.hbm, 12, rfl⟩
abbrev main_while0b_call0_c : Ref sig .tc := ⟨.hbm, 13, rfl⟩
abbrev main_while0b_call0_v0 : Ref sig .tc := ⟨.hbm, 14, rfl⟩
abbrev main_while0b_v4 : Ref sig .tc := ⟨.hbm, 15, rfl⟩
abbrev main_while0b_v5 : Ref sig .tc := ⟨.hbm, 16, rfl⟩
abbrev main_while0b_call1_v0 : Ref sig .tc := ⟨.hbm, 17, rfl⟩
abbrev main_while0b_call1_c : Ref sig .tc := ⟨.hbm, 18, rfl⟩
abbrev main_while0b_v6 : Ref sig .tc := ⟨.hbm, 19, rfl⟩
abbrev main_while0b_c_4 : Ref sig .tc := ⟨.hbm, 20, rfl⟩
abbrev main_while0b_v7 : Ref sig .tc := ⟨.hbm, 21, rfl⟩

abbrev nD : Nat := 1
abbrev τ : Topo := Topo.v7x

variable {F : FTy → Type} [FloatOps F]

abbrev main_while0_count : Scf.Loop 32 := ⟨0#32, 8192#32, 1#32⟩
-- ==== Proof.Cells.lean ====
/-
The line of sixteen devices: which device lies how far above or below which, the semaphores and buffers that the kernel
uses, and the contents that travel.

Index `i : Fin 15` stands for the distance `i + 1`. A device `c` sends the product of its own rows to every device above
it, so at distance `i + 1` it sends iff `above c i`, and it receives iff `below c i`.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.Prefix

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's copy, and the rounds with a duty for every distance -/

abbrev UB : Type := URounds (GSem nD τ sig) (Fin 15)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every counter zero, any generator registers. -/
def s₀ : MemSt nD τ sig (Elt F) := ⟨m, fun _ => 0, ρ⟩

/-! ## Distances -/

set_option backward.proofsInPublic true in
/-- The device at distance `i + 1` above `c` (around the ring, so that it is a bijection), -/
def up (i : Fin 15) (c : Dev nD) : Dev nD := ⟨(c.val + (i.val + 1)) % 16, Nat.mod_lt _ (by decide)⟩
set_option backward.proofsInPublic true in
/-- and the one at that distance below it. -/
def dn (i : Fin 15) (c : Dev nD) : Dev nD := ⟨(c.val + (15 - i.val)) % 16, Nat.mod_lt _ (by decide)⟩

theorem val_lt (c : Dev nD) : c.val < 16 := c.isLt

theorem dn_up (i : Fin 15) (c : Dev nD) : dn i (up i c) = c := by
  have := val_lt c; apply Fin.ext; simp only [dn, up]; omega
theorem up_dn (i : Fin 15) (c : Dev nD) : up i (dn i c) = c := by
  have := val_lt c; apply Fin.ext; simp only [dn, up]; omega

/-- Distance `i + 1` up, as a permutation of the devices. -/
def shift (i : Fin 15) : Dev nD ≃ Dev nD := ⟨up i, dn i, dn_up i, up_dn i⟩

/-- There is a device at distance `i + 1` above `c`; -/
abbrev above (c : Dev nD) (i : Fin 15) : Prop := c.val + (i.val + 1) < 16
/-- there is one at that distance below `c`. -/
abbrev below (c : Dev nD) (i : Fin 15) : Prop := i.val + 1 ≤ c.val

theorem below_up (i : Fin 15) (c : Dev nD) : below (up i c) i ↔ above c i := by
  have := val_lt c; simp only [below, above, up]; omega
theorem above_dn (i : Fin 15) (c : Dev nD) : above (dn i c) i ↔ below c i := by
  have := val_lt c; simp only [below, above, dn]; omega

/-! ## Semaphores and buffers -/

/-- The runtime's barrier semaphore. -/
abbrev barS : Sem sig := (SemArray.scalar (sig.barrier 0 rfl) : Sems sig S_).sem
set_option backward.proofsInPublic true in
/-- The semaphore that the transfer to distance `i + 1` completes on at the sender, -/
def sendS (i : Fin 15) : DmaSem sig := (⟨2 + i.val, by have := i.isLt; show 2 + i.val < 32; omega⟩ : Fin 32)
set_option backward.proofsInPublic true in
/-- and the one it completes on at the receiver. -/
def recvS (i : Fin 15) : DmaSem sig := (⟨17 + i.val, by have := i.isLt; show 17 + i.val < 32; omega⟩ : Fin 32)

/-- The kernel's own semaphores: first the senders', then the receivers'. -/
abbrev osem : Fin 15 ⊕ Fin 15 → SemLoc sig := fun | .inl i => .dma (sendS i) | .inr i => .dma (recvS i)
/-- All of the protocol's: the barrier and the kernel's own. -/
abbrev csem : Unit ⊕ (Fin 15 ⊕ Fin 15) → SemLoc sig := fun | .inl _ => .reg barS | .inr k => osem k

abbrev Cell : Type := Unit ⊕ (Fin 15 ⊕ Fin 15)
abbrev kcell (ck : Dev nD × Cell) : GSem nD τ sig := ((ck.1 : Thread nD τ), csem ck.2)
abbrev barCell (c : Dev nD) : GSem nD τ sig := ((c : Thread nD τ), .reg barS)
abbrev sendCell (c : Dev nD) (i : Fin 15) : GSem nD τ sig := ((c : Thread nD τ), .dma (sendS i))
abbrev recvCell (c : Dev nD) (i : Fin 15) : GSem nD τ sig := ((c : Thread nD τ), .dma (recvS i))

theorem sendS_inj {i j : Fin 15} (h : sendS i = sendS j) : i = j := by
  have := congrArg (fun x : Fin 32 => x.val) h; simp only [sendS] at this; exact Fin.ext (by omega)
theorem recvS_inj {i j : Fin 15} (h : recvS i = recvS j) : i = j := by
  have := congrArg (fun x : Fin 32 => x.val) h; simp only [recvS] at this; exact Fin.ext (by omega)
theorem sendS_ne_recvS (i j : Fin 15) : sendS i ≠ recvS j := fun h => by
  have := congrArg (fun x : Fin 32 => x.val) h; simp only [sendS, recvS] at this; omega

abbrev xM : Memref sig .tc .vmem S512x512 .bf16 := Memref.whole cc0_stg0_0
abbrev oM : Memref sig .tc .vmem S512x512 .f32 := Memref.whole cc0_stg1_0
/-- The landing buffer: fifteen rows, row `i` for the product that comes from distance `i + 1`. -/
abbrev rM : Memref sig .tc .vmem S15x1x512 .f32 := Memref.whole cc0_scratch0
/-- The buffer that is sent. -/
abbrev bM : Memref sig .tc .vmem S1x512 .f32 := Memref.whole cc0_scratch1

theorem inb_row (i : Fin 15) : ∀ a, (![i.val, 0, 0] : Fin 3 → Nat) a + S1x1x512.size a ≤ S15x1x512.size a := by
  revert i; decide

/-- Row `i` of the landing buffer as a rectangle, -/
abbrev rowR (i : Fin 15) : Rect S15x1x512 := Rect.unit (s := S15x1x512) ![i.val, 0, 0] S1x1x512.size (inb_row i)
/-- and as the buffer a transfer lands in. -/
abbrev rowM (i : Fin 15) : Memref sig .tc .vmem S1x512 .f32 :=
  (rM.slice (rowR i) (fun _ => rfl)).squeeze S1x512 squeezes_S1x1x512_S1x512

/-- What one row's transfer adds to a semaphore. -/
abbrev N : ℕ := (bM : Memref sig .tc .vmem S1x512 .f32).view.dmaCredit
theorem N_pos : 0 < N := View.dmaCredit_pos _ (by decide)
theorem row_credit (i : Fin 15) : (rowM i).view.dmaCredit = N := rfl
theorem row_amount (i : Fin 15) (sm : DmaSem sig) : (rowM i).view.amount (.dma sm) = N := rfl

/-! ## Contents -/

/-- What the pipeline stages on device `c`: its rows of the argument. -/
def xstg (c : Dev nD) : (cc0_stg0_0 : Ref sig .tc).ty.Contents (Elt F) :=
  (win0_0.blk (0 : Fin 1)).view.read (Elt F) ((s₀ m ρ).mem ((c : Thread nD τ).loc main_arg0))

/-- The product of device `c`'s rows, as the kernel computes it. -/
def tot (c : Dev nD) : FVec F S1x512 .f32 := k0_pay3 (k0_pay2 (xstg m ρ c))

end Cert.Prefix

end
-- ==== Proof.Schedule.lean ====
/-
The protocol: which cell is paid by whom, how much and with what; what each device owes at launch; the order of the waits.

Every cell has one round. Device `c`'s barrier cell is paid one unit by each device above it, which hands over the row of
its landing buffer that `c` will write. The send cell at distance `i + 1` gives back the share of the sent buffer that the
transfer read; the receive cell gives the row, holding the product of the device `i + 1` below.
-/
module

public import proofs.«01_k».proof.Proof.Cells

@[expose] public section

noncomputable section

namespace Cert.Prefix

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## What travels -/

/-- Row `i` of device `c`'s landing buffer, holding `X`. -/
def rowAt (c : Dev nD) (i : Fin 15) (X : FVec F S1x512 .f32) : sProp 𝕄 :=
  owns (c : Thread nD τ) (rowM i) fullShare X
/-- The same row, holding anything. -/
def rowAny (c : Dev nD) (i : Fin 15) : sProp 𝕄 := iprop(∃ X : FVec F S1x512 .f32, rowAt c i X)
/-- A share of the sent buffer, holding the product of `c`'s rows. -/
def bufAt (c : Dev nD) (q : PosShare TreeShare) : sProp 𝕄 :=
  (bM : Memref sig .tc .vmem S1x512 .f32).view.loc (c : Thread nD τ)
    ↦[(bM : Memref sig .tc .vmem S1x512 .f32).view.set]{q} (tot m ρ c : Buf (Elt F) ((c : Thread nD τ).loc cc0_scratch1))
/-- The share that the transfer to distance `i + 1` reads. -/
abbrev tokQ (i : Fin 15) : PosShare TreeShare := Transfers.shareTok fullShare 15 i

instance rowAt_storable (c : Dev nD) (i : Fin 15) (X) : BI.Storable (upEmb : UEmb _ 𝕄) (rowAt (F := F) c i X) := by
  unfold rowAt; infer_instance
instance rowAny_storable (c : Dev nD) (i : Fin 15) : BI.Storable (upEmb : UEmb _ 𝕄) (rowAny (F := F) c i) := by
  unfold rowAny; infer_instance
instance bufAt_storable (c : Dev nD) (q) : BI.Storable (upEmb : UEmb _ 𝕄) (bufAt (F := F) m ρ c q) := by
  unfold bufAt; infer_instance

/-! ## The schedule -/

abbrev Duty (g : GSem nD τ sig) (i : Fin 15) : Prop :=
  (g.2 = .reg barS ∧ above g.1.1 i) ∨ (g.2 = .dma (sendS i) ∧ above g.1.1 i) ∨ (g.2 = .dma (recvS i) ∧ below g.1.1 i)

/-- The rounds: see the head of this file. -/
def lineRd : Rounds.Schedule (GSem nD τ sig) (Fin 15) 𝕄 where
  duties g r := Finset.univ.filter fun i => r = 0 ∧ g.1.2 = .tc ∧ Duty g i
  unitless _ := False
  amount g _ _ := if g.2 = .reg barS then 1 else N
  payload g _ i :=
    if g.2 = .reg barS then rowAny (up i g.1.1) i
    else if g.2 = .dma (sendS i) then bufAt m ρ g.1.1 (tokQ i)
    else if g.2 = .dma (recvS i) then rowAt g.1.1 i (tot m ρ (dn i g.1.1))
    else iprop(emp)
  amount_pos g _ _ _ := by
    by_cases h : g.2 = .reg barS
    · rw [if_pos h]; exact Nat.one_pos
    · rw [if_neg h]; exact N_pos

instance lineRd_payload_storable (g : GSem nD τ sig) (r : ℕ) (d : Fin 15) :
    BI.Storable (upEmb : UEmb _ 𝕄) ((lineRd (F := F) m ρ).payload g r d) := by
  show BI.Storable upEmb (if g.2 = .reg barS then rowAny (up d g.1.1) d
    else if g.2 = .dma (sendS d) then bufAt m ρ g.1.1 (tokQ d)
    else if g.2 = .dma (recvS d) then rowAt g.1.1 d (tot m ρ (dn d g.1.1)) else iprop(emp))
  (repeat' split) <;> infer_instance

section Sched
variable (c : Dev nD) (i : Fin 15)

theorem send_ne_bar : (SemLoc.dma (sendS i) : SemLoc sig) ≠ .reg barS := fun h => by cases h
theorem recv_ne_bar : (SemLoc.dma (recvS i) : SemLoc sig) ≠ .reg barS := fun h => by cases h
theorem recv_ne_send (j : Fin 15) : (SemLoc.dma (recvS i) : SemLoc sig) ≠ .dma (sendS j) :=
  fun h => sendS_ne_recvS j i (SemLoc.dma.inj h).symm
theorem send_inj {i j : Fin 15} (h : (SemLoc.dma (sendS i) : SemLoc sig) = .dma (sendS j)) : i = j := sendS_inj (SemLoc.dma.inj h)
theorem recv_inj {i j : Fin 15} (h : (SemLoc.dma (recvS i) : SemLoc sig) = .dma (recvS j)) : i = j := recvS_inj (SemLoc.dma.inj h)

theorem mem_duties_bar (j : Fin 15) : j ∈ (lineRd (F := F) m ρ).duties (barCell c) 0 ↔ above c j := by
  show j ∈ Finset.univ.filter _ ↔ _
  rw [Finset.mem_filter]
  exact ⟨fun ⟨_, _, _, h⟩ => by
      rcases h with ⟨_, h⟩ | ⟨h, _⟩ | ⟨h, _⟩
      · exact h
      · exact absurd h (by intro h; cases h)
      · exact absurd h (by intro h; cases h),
    fun h => ⟨Finset.mem_univ _, rfl, rfl, .inl ⟨rfl, h⟩⟩⟩
theorem mem_duties_send (j : Fin 15) : j ∈ (lineRd (F := F) m ρ).duties (sendCell c i) 0 ↔ j = i ∧ above c i := by
  show j ∈ Finset.univ.filter _ ↔ _
  rw [Finset.mem_filter]
  exact ⟨fun ⟨_, _, _, h⟩ => by
      rcases h with ⟨h, _⟩ | ⟨h, ha⟩ | ⟨h, _⟩
      · exact absurd h (send_ne_bar i)
      · have := send_inj h; subst this; exact ⟨rfl, ha⟩
      · exact absurd h.symm (recv_ne_send j i),
    fun ⟨h, ha⟩ => by subst h; exact ⟨Finset.mem_univ _, rfl, rfl, .inr (.inl ⟨rfl, ha⟩)⟩⟩
theorem mem_duties_recv (j : Fin 15) : j ∈ (lineRd (F := F) m ρ).duties (recvCell c i) 0 ↔ j = i ∧ below c i := by
  show j ∈ Finset.univ.filter _ ↔ _
  rw [Finset.mem_filter]
  exact ⟨fun ⟨_, _, _, h⟩ => by
      rcases h with ⟨h, _⟩ | ⟨h, _⟩ | ⟨h, ha⟩
      · exact absurd h (recv_ne_bar i)
      · exact absurd h (recv_ne_send i j)
      · have := recv_inj h; subst this; exact ⟨rfl, ha⟩,
    fun ⟨h, ha⟩ => by subst h; exact ⟨Finset.mem_univ _, rfl, rfl, .inr (.inr ⟨rfl, ha⟩)⟩⟩

theorem duties_bar : (lineRd (F := F) m ρ).duties (barCell c) 0 = Finset.univ.filter (above c) := by
  ext j; rw [mem_duties_bar, Finset.mem_filter]; exact ⟨fun h => ⟨Finset.mem_univ _, h⟩, fun h => h.2⟩
theorem duties_send (h : above c i) : (lineRd (F := F) m ρ).duties (sendCell c i) 0 = {i} := by
  ext j; rw [mem_duties_send, Finset.mem_singleton]; exact ⟨fun h => h.1, fun e => ⟨e, h⟩⟩
theorem duties_recv (h : below c i) : (lineRd (F := F) m ρ).duties (recvCell c i) 0 = {i} := by
  ext j; rw [mem_duties_recv, Finset.mem_singleton]; exact ⟨fun h => h.1, fun e => ⟨e, h⟩⟩
theorem duties_later (g : GSem nD τ sig) : ∀ r, 1 ≤ r → (lineRd (F := F) m ρ).duties g r = ∅ := fun r hr => by
  show Finset.univ.filter _ = ∅
  rw [Finset.filter_eq_empty_iff]; rintro j - ⟨h, -⟩; omega

theorem none_bar (h : ¬ c.val < 15) : ∀ r, 0 ≤ r → (lineRd (F := F) m ρ).duties (barCell c) r = ∅ := fun r _ => by
  rcases Nat.eq_zero_or_pos r with rfl | hr
  · rw [duties_bar, Finset.filter_eq_empty_iff]; intro j _ ha; have := val_lt c; simp only [above] at ha; omega
  · exact duties_later m ρ _ r hr
theorem none_send (h : ¬ above c i) : ∀ r, 0 ≤ r → (lineRd (F := F) m ρ).duties (sendCell c i) r = ∅ := fun r _ => by
  rcases Nat.eq_zero_or_pos r with rfl | hr
  · ext j; rw [mem_duties_send]; exact ⟨fun e => absurd e.2 h, fun e => absurd e (Finset.notMem_empty _)⟩
  · exact duties_later m ρ _ r hr
theorem none_recv (h : ¬ below c i) : ∀ r, 0 ≤ r → (lineRd (F := F) m ρ).duties (recvCell c i) r = ∅ := fun r _ => by
  rcases Nat.eq_zero_or_pos r with rfl | hr
  · ext j; rw [mem_duties_recv]; exact ⟨fun e => absurd e.2 h, fun e => absurd e (Finset.notMem_empty _)⟩
  · exact duties_later m ρ _ r hr

theorem amount_bar (j : Fin 15) : (lineRd (F := F) m ρ).amount (barCell c) 0 j = 1 := by dsimp only [lineRd]; exact if_pos rfl
theorem amount_send (j : Fin 15) : (lineRd (F := F) m ρ).amount (sendCell c i) 0 j = N := by dsimp only [lineRd]; exact if_neg (send_ne_bar i)
theorem amount_recv (j : Fin 15) : (lineRd (F := F) m ρ).amount (recvCell c i) 0 j = N := by dsimp only [lineRd]; exact if_neg (recv_ne_bar i)

/-- How many devices lie above `c`. -/
abbrev nAbove (c : Dev nD) : ℕ := 15 - c.val
theorem card_above : (Finset.univ.filter (above c)).card = nAbove c := by revert c; decide

theorem expect_bar : (lineRd (F := F) m ρ).expect (barCell c) 0 = nAbove c := by
  unfold Schedule.expect Schedule.amountOf
  rw [Finset.sum_congr rfl fun d _ => amount_bar m ρ c d, Finset.sum_const, duties_bar, card_above, smul_eq_mul, Nat.mul_one]
theorem expect_send (h : above c i) : (lineRd (F := F) m ρ).expect (sendCell c i) 0 = N := by
  unfold Schedule.expect Schedule.amountOf; rw [duties_send m ρ c i h, Finset.sum_singleton, amount_send]
theorem expect_recv (h : below c i) : (lineRd (F := F) m ρ).expect (recvCell c i) 0 = N := by
  unfold Schedule.expect Schedule.amountOf; rw [duties_recv m ρ c i h, Finset.sum_singleton, amount_recv]

theorem payload_bar : (lineRd (F := F) m ρ).payload (barCell c) 0 i = rowAny (up i c) i := by dsimp only [lineRd]; exact if_pos rfl
theorem payload_send : (lineRd (F := F) m ρ).payload (sendCell c i) 0 i = bufAt m ρ c (tokQ i) := by
  dsimp only [lineRd]
  rw [if_neg (send_ne_bar i), if_pos rfl]
theorem payload_recv : (lineRd (F := F) m ρ).payload (recvCell c i) 0 i = rowAt c i (tot m ρ (dn i c)) := by
  dsimp only [lineRd]
  rw [if_neg (recv_ne_bar i), if_neg (recv_ne_send i i), if_pos rfl]

/-- What the whole round of a send cell hands over, -/
theorem rest_send (h : above c i) : bigSep ((lineRd (F := F) m ρ).duties (sendCell c i) 0 \ ∅) (fun d => (lineRd (F := F) m ρ).payload (sendCell c i) 0 d)
    = bufAt m ρ c (tokQ i) := by
  rw [Finset.sdiff_empty, duties_send m ρ c i h, bigSep_singleton, payload_send]
/-- and that of a receive cell. -/
theorem rest_recv (h : below c i) : bigSep ((lineRd (F := F) m ρ).duties (recvCell c i) 0 \ ∅) (fun d => (lineRd (F := F) m ρ).payload (recvCell c i) 0 d)
    = rowAt c i (tot m ρ (dn i c)) := by
  rw [Finset.sdiff_empty, duties_recv m ρ c i h, bigSep_singleton, payload_recv]

end Sched

/-! ## What each device owes -/

/-- The barrier signals still to be sent, from the `n`-th on, -/
def dueB (c : Dev nD) (n : ℕ) : CellTallies nD τ sig Unit :=
  ∑ i ∈ Finset.univ.filter (fun i : Fin 15 => below c i ∧ n ≤ i.val), tallyAt (barCell (dn i c)) () 1
/-- and the transfers. -/
def dueR (c : Dev nD) (n : ℕ) : CellTallies nD τ sig Unit :=
  ∑ i ∈ Finset.univ.filter (fun i : Fin 15 => above c i ∧ n ≤ i.val), tallyAt (recvCell (up i c) i) () N

theorem filter_peel (p : Fin 15 → Prop) [DecidablePred p] (i : Fin 15) (h : p i) :
    Finset.univ.filter (fun j : Fin 15 => p j ∧ i.val ≤ j.val) = insert i (Finset.univ.filter fun j : Fin 15 => p j ∧ i.val + 1 ≤ j.val) := by
  ext j
  simp only [Finset.mem_filter, Finset.mem_univ, true_and, Finset.mem_insert]
  constructor
  · rintro ⟨hp, hj⟩
    rcases Nat.lt_or_ge i.val j.val with h' | h'
    · exact .inr ⟨hp, h'⟩
    · exact .inl (Fin.ext (by omega))
  · rintro (rfl | ⟨hp, hj⟩)
    · exact ⟨h, le_rfl⟩
    · exact ⟨hp, by omega⟩
theorem filter_skip (p : Fin 15 → Prop) [DecidablePred p] (i : Fin 15) (h : ¬ p i) :
    Finset.univ.filter (fun j : Fin 15 => p j ∧ i.val ≤ j.val) = Finset.univ.filter fun j : Fin 15 => p j ∧ i.val + 1 ≤ j.val := by
  ext j
  simp only [Finset.mem_filter, Finset.mem_univ, true_and]
  refine and_congr_right fun hp => ⟨fun hj => ?_, fun hj => by omega⟩
  have : i.val ≠ j.val := fun e => h (by rw [Fin.ext e]; exact hp)
  omega
theorem not_mem_later (p : Fin 15 → Prop) [DecidablePred p] (i : Fin 15) : i ∉ Finset.univ.filter fun j : Fin 15 => p j ∧ i.val + 1 ≤ j.val := by
  simp only [Finset.mem_filter, Finset.mem_univ, true_and]; omega
theorem filter_done (p : Fin 15 → Prop) [DecidablePred p] : Finset.univ.filter (fun j : Fin 15 => p j ∧ 15 ≤ j.val) = ∅ := by
  rw [Finset.filter_eq_empty_iff]; rintro j - ⟨-, h⟩; have := j.isLt; omega

theorem dueB_step (c : Dev nD) (i : Fin 15) (h : below c i) : dueB c i.val = dueB c (i.val + 1) + tallyAt (barCell (dn i c)) () 1 := by
  unfold dueB; rw [filter_peel (below c) i h, Finset.sum_insert (not_mem_later _ i), add_comm]
theorem dueB_skip (c : Dev nD) (i : Fin 15) (h : ¬ below c i) : dueB c i.val = dueB c (i.val + 1) := by
  unfold dueB; rw [filter_skip (below c) i h]
theorem dueB_done (c : Dev nD) : dueB c 15 = 0 := by unfold dueB; rw [filter_done, Finset.sum_empty]
theorem dueR_step (c : Dev nD) (i : Fin 15) (h : above c i) : dueR c i.val = dueR c (i.val + 1) + tallyAt (recvCell (up i c) i) () N := by
  unfold dueR; rw [filter_peel (above c) i h, Finset.sum_insert (not_mem_later _ i), add_comm]
theorem dueR_skip (c : Dev nD) (i : Fin 15) (h : ¬ above c i) : dueR c i.val = dueR c (i.val + 1) := by
  unfold dueR; rw [filter_skip (above c) i h]
theorem dueR_done (c : Dev nD) : dueR c 15 = 0 := by unfold dueR; rw [filter_done, Finset.sum_empty]

/-- What device `c` owes at launch: every signal and every transfer. -/
def O₀ (c : Dev nD) : CellTallies nD τ sig Unit := dueB c 0 + dueR c 0

/-- A sum of tallies is positive only at one of its cells. -/
theorem sum_tally_pos {S : Finset (Fin 15)} {g : Fin 15 → GSem nD τ sig} {k : ℕ} {g' : GSem nD τ sig} {u : Unit} :
    0 < (∑ i ∈ S, (tallyAt (g i) () k : CellTallies nD τ sig Unit)) g' u → ∃ i, g' = g i := by
  classical
  induction S using Finset.induction_on with
  | empty => intro h; rw [Finset.sum_empty] at h; exact absurd h (Nat.lt_irrefl 0)
  | insert a S ha ih =>
    intro h
    rw [Finset.sum_insert ha, Pi.add_apply, Finsupp.add_apply, tallyAt_apply] at h
    by_cases e : g' = g a ∧ u = ()
    · exact ⟨a, e.1⟩
    · rw [if_neg e, Nat.zero_add] at h; exact ih h

/-! ## The order of the waits -/

def L (g : GSem nD τ sig) : Finset Unit := if g.1.2 = .tc then {()} else ∅
abbrev IsRecv (sm : SemLoc sig) : Prop := ∃ i : Fin 15, sm = .dma (recvS i)
/-- Barrier cells come first, then receive cells; all others are waited for by those who owe nothing above them. -/
def lv (g : GSem nD τ sig) (_ : Unit) : ℕ := if g.2 = .reg barS then 1 else if IsRecv g.2 then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u) : lv (barCell c) u = 1 := if_pos rfl
theorem lv_recv (c : Dev nD) (i : Fin 15) (u) : lv (recvCell c i) u = 2 := by
  unfold lv; rw [if_neg (recv_ne_bar i), if_pos ⟨i, rfl⟩]

theorem dueB_pos {c : Dev nD} {n : ℕ} {g : GSem nD τ sig} {u : Unit} (h : 0 < dueB c n g u) : ∃ c', g = barCell c' := by
  obtain ⟨i, hi⟩ := sum_tally_pos (g := fun i => barCell (dn i c)) h; exact ⟨_, hi⟩
theorem dueR_pos {c : Dev nD} {n : ℕ} {g : GSem nD τ sig} {u : Unit} (h : 0 < dueR c n g u) : ∃ c' i, g = recvCell c' i := by
  obtain ⟨i, hi⟩ := sum_tally_pos (g := fun i => recvCell (up i c) i) h; exact ⟨_, _, hi⟩

/-- A staging semaphore may be waited for at launch and at the end. -/
theorem mayWait_stage (c : Dev nD) (q : DmaSem sig) (hq : ¬ IsRecv (SemLoc.dma q)) (O : CellTallies nD τ sig Unit) (hO : O = O₀ c ∨ O = 0) :
    (levAts L lv : sProp 𝕄) ⊢ MayWait (c : Thread nD τ) (.dma q) () O := by
  have key : ∀ g u, 0 < O₀ c g u → (∃ c', g = barCell c') ∨ ∃ c' i, g = recvCell c' i := fun g u hg => by
    unfold O₀ at hg; rw [Pi.add_apply, Finsupp.add_apply] at hg
    rcases Nat.eq_zero_or_pos (dueB c 0 g u) with h | h
    · rw [h, Nat.zero_add] at hg; exact .inr (dueR_pos hg)
    · exact .inl (dueB_pos h)
  rcases hO with rfl | rfl
  · refine MayOwe.of_cut (L := L) (lev := lv) 0 (fun p hp => by rw [Finset.mem_singleton.mp hp, L_tc]; exact Finset.mem_singleton_self _)
      (fun g u hg => by rcases key g u hg with ⟨c', rfl⟩ | ⟨c', i, rfl⟩ <;> exact Finset.mem_singleton_self _)
      (fun p hp => by rw [Finset.mem_singleton.mp hp]; dsimp only [lv]; rw [if_neg (fun h => by cases h), if_neg hq])
      (fun g u hg => by
        rcases key g u hg with ⟨c', rfl⟩ | ⟨c', i, rfl⟩
        · rw [lv_bar]; decide
        · rw [lv_recv]; decide)
  · rw [MayWait_zero]; iintro -; iempintro

/-- At its barrier waits a device owes transfers only. -/
theorem mayOwe_bar (c : Dev nD) (n : ℕ) :
    (levAts L lv : sProp 𝕄) ⊢ MayWait (c : Thread nD τ) (.reg barS) () (dueR c n) :=
  MayOwe.of_cut (L := L) (lev := lv) 1 (fun p hp => by rw [Finset.mem_singleton.mp hp, L_tc]; exact Finset.mem_singleton_self _)
    (fun g u hg => by obtain ⟨c', i, rfl⟩ := dueR_pos hg; exact Finset.mem_singleton_self _)
    (fun p hp => by rw [Finset.mem_singleton.mp hp]; exact le_of_eq (lv_bar c _))
    (fun g u hg => by obtain ⟨c', i, rfl⟩ := dueR_pos hg; rw [lv_recv]; decide)

end Cert.Prefix

end
-- ==== Proof.Steps.lean ====
/-
What a device holds between two steps of the kernel, as a function of how many steps of each kind it has done, and one
lemma for every kind of step.

A step `if there is a device at that distance then … ` is treated as a whole: both branches end in the same state.
-/
module

public import proofs.«01_k».proof.Proof.Schedule

@[expose] public section

set_option maxRecDepth 100000

noncomputable section

namespace Cert.Prefix

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The weakest precondition of a program of the kernel on device `c`. -/
@[irreducible] def WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## What everybody knows -/

/-- The invariants of all cells under the names `K`, that every cell has reached its first round, and the levels. -/
def records (K : Dev nD × Cell → ℕ) : sProp 𝕄 :=
  iprop((bigSep Finset.univ fun ck => cellInv ER (lineRd m ρ) (K ck) (kcell ck)) ∗ (bigSep Finset.univ fun ck => reached ER (kcell ck) 0)
    ∗ levAts L lv)

instance records_persistent (K : Dev nD × Cell → ℕ) : BI.Persistent (records m ρ K) := by unfold records; infer_instance

/-- One member of a family. -/
theorem bigSep_one {I : Type} [Fintype I] [DecidableEq I] (Φ : I → sProp 𝕄) (i : I) : bigSep Finset.univ Φ ⊢ Φ i :=
  bigSep_elim (Finset.mem_univ i)
/-- A family over a set and over what it leaves of a larger one, together. -/
theorem bigSep_join {I : Type} [DecidableEq I] {s t : Finset I} (h : t ⊆ s) (Φ : I → sProp 𝕄) :
    iprop(bigSep t Φ ∗ bigSep (s \ t) Φ) ⊢ bigSep s Φ := Entails.of_eq (bigSep_sdiff_split h).symm

theorem inv_at (K : Dev nD × Cell → ℕ) (ck : Dev nD × Cell) : records m ρ K ⊢ cellInv ER (lineRd m ρ) (K ck) (kcell ck) := by
  unfold records; iintro ⟨H, -, -⟩
  iapply (bigSep_one (fun ck : Dev nD × Cell => cellInv ER (lineRd m ρ) (K ck) (kcell ck)) ck); iexact H
theorem reached_at (K : Dev nD × Cell → ℕ) (ck : Dev nD × Cell) : records m ρ K ⊢ reached ER (kcell ck) 0 := by
  unfold records; iintro ⟨-, H, -⟩
  iapply (bigSep_one (fun ck : Dev nD × Cell => reached ER (kcell ck) 0) ck); iexact H
theorem levs_at (K : Dev nD × Cell → ℕ) : records m ρ K ⊢ levAts L lv := by
  unfold records; iintro ⟨-, -, H⟩; iexact H

/-! ## What a device holds -/

/-- A cell without duties from the device's position on: its counter can be had back. -/
def closable (g : GSem nD τ sig) : sProp 𝕄 := iprop(∃ R : ℕ, ⌜∀ r, R ≤ r → (lineRd (F := F) m ρ).duties g r = ∅⌝ ∗ atPos ER g R ∅ 0)

/-- What a device owes, whatever it has waited for. -/
def owe (c : Dev nD) (O : CellTallies nD τ sig Unit) : sProp 𝕄 := iprop(∃ W, owes (c : Thread nD τ) O W)

/-- For the barrier signals from the `n`-th on: the right to send each, and the row it hands over. -/
def sigItem (c : Dev nD) (n : ℕ) (i : Fin 15) : sProp 𝕄 :=
  if below c i ∧ n ≤ i.val then iprop(dutyTok ER (barCell (dn i c)) 0 i ∗ rowAny c i) else iprop(emp)
theorem sigItem_now (c : Dev nD) (i : Fin 15) (h : below c i) :
    sigItem (F := F) c i.val i = iprop(dutyTok ER (barCell (dn i c)) 0 i ∗ rowAny c i) := if_pos ⟨h, le_rfl⟩
theorem sigItem_done (c : Dev nD) (i : Fin 15) : sigItem (F := F) c (i.val + 1) i = iprop(emp) := if_neg fun h => by omega
def sigSt (c : Dev nD) (n : ℕ) : sProp 𝕄 := bigSep Finset.univ (sigItem c n)

/-- The rows above that device `c` has been given and has not sent to, the first `s` transfers being started. -/
def gotItem (c : Dev nD) (s : ℕ) (i : Fin 15) : sProp 𝕄 := if above c i ∧ s ≤ i.val then rowAny (up i c) i else iprop(emp)

/-- After `b` waits for the barrier: with waits to come, what has been handed over so far and the credit for the others;
    without, all the rows above. -/
def barSt (c : Dev nD) (b s : ℕ) : sProp 𝕄 :=
  if b < nAbove c then
    iprop(∃ T : Finset (Fin 15), ⌜T ⊆ (lineRd (F := F) m ρ).duties (barCell c) 0⌝ ∗ atPos ER (barCell c) 0 T b
      ∗ (bigSep T fun j => (lineRd (F := F) m ρ).payload (barCell c) 0 j) ∗ cred (tallyAt (barCell c) () (nAbove c - b)))
  else iprop(closable m ρ (barCell c) ∗ bigSep Finset.univ (gotItem c s))
theorem barSt_wait (c : Dev nD) {b s : ℕ} (h : b < nAbove c) :
    barSt m ρ c b s = iprop(∃ T : Finset (Fin 15), ⌜T ⊆ (lineRd (F := F) m ρ).duties (barCell c) 0⌝ ∗ atPos ER (barCell c) 0 T b
      ∗ (bigSep T fun j => (lineRd (F := F) m ρ).payload (barCell c) 0 j) ∗ cred (tallyAt (barCell c) () (nAbove c - b))) := if_pos h
theorem barSt_done (c : Dev nD) {b s : ℕ} (h : ¬ b < nAbove c) :
    barSt m ρ c b s = iprop(closable m ρ (barCell c) ∗ bigSep Finset.univ (gotItem c s)) := if_neg h

/-- For the transfer to distance `i + 1`, `s` transfers being started and `w` waited for: the rights to it and the share
    of the buffer it reads; then the credit for its wait; then the share again. -/
def sendItem (c : Dev nD) (s w : ℕ) (i : Fin 15) : sProp 𝕄 :=
  if above c i then
    if s ≤ i.val then
      iprop((dutyTok ER (sendCell c i) 0 i ∗ dutyTok ER (recvCell (up i c) i) 0 i ∗ atPos ER (sendCell c i) 0 ∅ 0) ∗ bufAt m ρ c (tokQ i))
    else if w ≤ i.val then iprop(cred (tallyAt (sendCell c i) () N) ∗ atPos ER (sendCell c i) 0 ∅ 0)
    else iprop(closable m ρ (sendCell c i) ∗ bufAt m ρ c (tokQ i))
  else iprop(closable m ρ (sendCell c i) ∗ bufAt m ρ c (tokQ i))
def sendSt (c : Dev nD) (s w : ℕ) : sProp 𝕄 := bigSep Finset.univ (sendItem m ρ c s w)

/-- For the transfer from distance `i + 1`, `r` of them waited for: the credit for the wait; then the row with what has
    landed. -/
def recvItem (c : Dev nD) (r : ℕ) (i : Fin 15) : sProp 𝕄 :=
  if below c i then
    if r ≤ i.val then iprop(cred (tallyAt (recvCell c i) () N) ∗ atPos ER (recvCell c i) 0 ∅ 0)
    else iprop(closable m ρ (recvCell c i) ∗ rowAt c i (tot m ρ (dn i c)))
  else iprop(closable m ρ (recvCell c i) ∗ rowAny c i)
def recvSt (c : Dev nD) (r : ℕ) : sProp 𝕄 := bigSep Finset.univ (recvItem m ρ c r)

/-- While signalling: `n` signals done, and the rest `R`. -/
def StA (K : Dev nD × Cell → ℕ) (c : Dev nD) (n : ℕ) (R : sProp 𝕄) : sProp 𝕄 :=
  iprop(records m ρ K ∗ owe c (dueB c n + dueR c 0) ∗ sigSt c n ∗ R)

/-- From then on: `b` barrier waits, `s` transfers, `r` waits for what lands and `w` for what is sent done, and the rest
    `R`. -/
def StB (K : Dev nD × Cell → ℕ) (c : Dev nD) (b s r w : ℕ) (R : sProp 𝕄) : sProp 𝕄 :=
  iprop(records m ρ K ∗ owe c (dueR c s) ∗ barSt m ρ c b s ∗ sendSt m ρ c s w ∗ recvSt m ρ c r ∗ R)

/-! ## Steps -/

section Steps

variable {m ρ}
variable {K : Dev nD × Cell → ℕ} {c : Dev nD} {R : sProp (MT nD τ sig Unit (Elt F) ℕ UU ℕ)} {α : Type}
  {Q : α → sProp (MT nD τ sig Unit (Elt F) ℕ UU ℕ)}

theorem ne_le {i j : Fin 15} (h : j ≠ i) : (i.val + 1 ≤ j.val) = (i.val ≤ j.val) :=
  propext ⟨fun h' => by omega, fun h' => Nat.lt_of_le_of_ne h' fun e => h (Fin.ext e.symm)⟩
theorem not_le (i : Fin 15) : ¬ i.val + 1 ≤ i.val := by omega

/-- The barrier signal to the device at distance `i + 1` below. -/
theorem sigStep (i : Fin 15) {cond : BitVec 1} (hc : cond = 1#1 ↔ below c i) {dv : cond = 1#1 → Dev nD} (hdv : ∀ h, dv h = dn i c)
    {k : Prog (TpuEff nD τ sig (Elt F) Λ₀ .tc) α} (h : StA m ρ K c (i.val + 1) R ⊢ WP c k Q) :
    StA m ρ K c i.val R ⊢ WP c (dite (cond = 1#1) (fun h => semSignalWord (dv h) barS 1#32 >>= fun _ => k) (fun _ => k)) Q := by
  by_cases hb : below c i
  · have h1 : cond = 1#1 := hc.2 hb
    rw [dif_pos h1, hdv]
    simp only [semSignalWord, Prog.bind_op, Prog.bind_ret]
    unfold WP at h ⊢
    unfold StA owe sigSt
    rw [dueB_step c i hb]
    iintro ⟨#HR, ⟨%W, HO⟩, HS, HF⟩
    ihave HS := (bigSep_univ_update (Φ := sigItem (F := F) c i.val) (Ψ := sigItem (F := F) c (i.val + 1)) i
      fun j hj => by simp only [sigItem, ne_le hj]) $$ HS
    icases HS with ⟨Hi, Hback⟩
    ihave Hi := (Entails.of_eq (sigItem_now c i hb)) $$ Hi
    icases Hi with ⟨Ht, Hrow⟩
    ihave #HI := (inv_at m ρ K (dn i c, .inl ())) $$ HR
    ihave #Hr := (reached_at m ρ K (dn i c, .inl ())) $$ HR
    iapply (Rounds.wp_signal 𝒱₀ ER (lineRd m ρ) (c : Thread nD τ) none (dst := (dn i c : Thread nD τ)) (κ := K (dn i c, .inl ()))
        (d := i) ((mem_duties_bar m ρ (dn i c) i).2 ((above_dn i c).2 hb)) ((amount_bar m ρ (dn i c) i).trans (by decide)) ()
        (dueB c (i.val + 1) + dueR c 0) (add_right_comm _ _ _)) $$ [HO Ht Hrow]
    · isplitr; · iexact HI
      isplitl [HO]; · iexact HO
      isplitl [Ht]; · iexact Ht
      isplitl [Hrow]
      · rw [payload_bar, up_dn]; iexact Hrow
      · iexact Hr
    iintro HO
    iapply h
    unfold StA owe sigSt
    isplitr; · iexact HR
    isplitl [HO]; · iexists W; iexact HO
    isplitl [Hback]
    · iapply Hback
      rw [sigItem_done]; iempintro
    · iexact HF
  · have h1 : ¬ cond = 1#1 := fun e => hb (hc.1 e)
    rw [dif_neg h1]
    refine BIBase.Entails.trans ?_ h
    unfold StA sigSt
    rw [dueB_skip c i hb, show sigItem (F := F) c i.val = sigItem (F := F) c (i.val + 1) from
      funext fun j => by
        by_cases e : j = i
        · subst e; unfold sigItem; rw [if_neg fun h => hb h.1, if_neg fun h => hb h.1]
        · simp only [sigItem, ne_le e]]

/-- All that the barrier cell's round hands over. -/
theorem got_all (T : Finset (Fin 15)) (hT : T ⊆ (lineRd (F := F) m ρ).duties (barCell c) 0) :
    iprop((bigSep T fun j => (lineRd (F := F) m ρ).payload (barCell c) 0 j)
      ∗ bigSep ((lineRd (F := F) m ρ).duties (barCell c) 0 \ T) fun j => (lineRd (F := F) m ρ).payload (barCell c) 0 j)
    ⊢ bigSep Finset.univ (gotItem (F := F) c 0) := by
  refine Entails.of_eq ((bigSep_sdiff_split hT).symm.trans ?_)
  rw [duties_bar, bigSep_filter]
  refine bigSep_congr fun j _ => ?_
  unfold gotItem
  simp only [payload_bar, Nat.zero_le, and_true]
  rfl

/-- A wait for one unit on the barrier. -/
theorem barStep (i : Fin 15) {cond : BitVec 1} (hc : cond = 1#1 ↔ above c i)
    {k : Prog (TpuEff nD τ sig (Elt F) Λ₀ .tc) α} (h : StB m ρ K c (i.val + 1) 0 0 0 R ⊢ WP c k Q) :
    StB m ρ K c i.val 0 0 0 R ⊢ WP c (dite (cond = 1#1) (fun h => semWaitWord barS 1#32 >>= fun _ => k) (fun _ => k)) Q := by
  by_cases ha : above c i
  · have h1 : cond = 1#1 := hc.2 ha
    rw [dif_pos h1]
    simp only [semWaitWord, Prog.bind_op, Prog.bind_ret]
    unfold WP at h ⊢
    have hlt : i.val < nAbove c := by have := val_lt c; simp only [above] at ha; simp only [nAbove]; omega
    unfold StB owe
    iintro ⟨#HR, ⟨%W, HO⟩, HB, HF⟩
    ihave #HI := (inv_at m ρ K (c, .inl ())) $$ HR
    ihave #Hl := (levs_at m ρ K) $$ HR
    ihave HB := (Entails.of_eq (barSt_wait m ρ c hlt)) $$ HB
    icases HB with ⟨%T, %hT, Hat, Hpay, Hc⟩
    by_cases hl : i.val + 1 < nAbove c
    · rw [show tallyAt (barCell c) () (nAbove c - i.val) = tallyAt (barCell c) () (nAbove c - (i.val + 1)) + tallyAt (barCell c) () 1 by
        rw [tallyAt_add]; congr 1; omega]
      ihave Hc := (cred_add _ _).1 $$ Hc
      icases Hc with ⟨Hc, Hc1⟩
      iapply (Rounds.wp_wait 𝒱₀ ER (lineRd m ρ) (c : Thread nD τ) none (κ := K (c, .inl ()))
        (wpE_semWait_eq 𝒱₀ (c : Thread nD τ) none Set.univ) (Set.mem_univ _) (cr := Finsupp.single () 1) {(.reg barS, ())}
        (O := dueR c 0) (W := W) (R := 0) (m := i.val) (T := T) (by rw [Util.total_single]; decide) (image_single_subset _ () 1)) $$ [HO Hat Hc1]
      · isplitr; · iexact HI
        isplitl [Hc1]; · iexact Hc1
        isplitl [HO]; · iexact HO
        isplitr; · iapply (mayOwe_bar c 0); iexact Hl
        iexact Hat
      iintro %S ⟨%hS, HO, Hat, Hpay'⟩
      iapply h
      unfold StB owe barSt
      isplitr; · iexact HR
      isplitl [HO]; · iexists _; iexact HO
      isplitr [HF]
      · rw [if_pos hl]
        iexists S
        isplitr; · ipureintro; exact hS.2.1
        isplitl [Hat]; · iexact Hat
        isplitr [Hc]
        · iapply (bigSep_join hS.1 _)
          isplitl [Hpay]; · iexact Hpay
          iexact Hpay'
        · iexact Hc
      · iexact HF
    · rw [show nAbove c - i.val = 1 by omega]
      iapply (Rounds.wp_wait_rest_token 𝒱₀ ER (lineRd m ρ) (c : Thread nD τ) none (κ := K (c, .inl ()))
        (wpE_semWait_eq 𝒱₀ (c : Thread nD τ) none Set.univ) (Set.mem_univ _) () (O := dueR c 0) (W := W) (R := 0) (m := i.val) (T := T)
        (by rw [expect_bar]; show i.val + 1 = _; omega)) $$ [HO Hat Hc]
      · isplitr; · iexact HI
        isplitl [Hc]; · iexact Hc
        isplitl [HO]; · iexact HO
        isplitr; · iapply (mayOwe_bar c 0); iexact Hl
        iexact Hat
      iintro ⟨HO, Hat, -, Hpay'⟩
      iapply h
      unfold StB owe barSt
      isplitr; · iexact HR
      isplitl [HO]; · iexists _; iexact HO
      isplitr [HF]
      · rw [if_neg hl]
        isplitl [Hat]
        · unfold closable; iexists (0 + 1)
          isplitr; · ipureintro; exact duties_later m ρ _
          iexact Hat
        · iapply (got_all T hT)
          isplitl [Hpay]; · iexact Hpay
          iexact Hpay'
      · iexact HF
  · have h1 : ¬ cond = 1#1 := fun e => ha (hc.1 e)
    rw [dif_neg h1]
    refine BIBase.Entails.trans ?_ h
    unfold StB barSt
    have := val_lt c; simp only [above] at ha
    rw [if_neg (by simp only [nAbove]; omega), if_neg (by simp only [nAbove]; omega)]

end Steps

end Cert.Prefix

end
-- ==== Proof.Transfer.lean ====
/-
One lemma for every kind of step of the transfers: starting one, waiting for it at either end, and reading what landed.
-/
module

public import proofs.«01_k».proof.Proof.Steps

@[expose] public section

set_option maxRecDepth 100000

noncomputable section

namespace Cert.Prefix

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The items, case by case -/

section Items
variable (c : Dev nD) (i : Fin 15)

theorem gotItem_now (h : above c i) : gotItem (F := F) c i.val i = rowAny (up i c) i := if_pos ⟨h, le_rfl⟩
theorem gotItem_done : gotItem (F := F) c (i.val + 1) i = iprop(emp) := if_neg fun h => by omega
theorem sendItem_off (s w : ℕ) (h : ¬ above c i) :
    sendItem m ρ c s w i = iprop(closable m ρ (sendCell c i) ∗ bufAt m ρ c (tokQ i)) := if_neg h
theorem sendItem_todo (w : ℕ) (h : above c i) : sendItem m ρ c i.val w i
    = iprop((dutyTok ER (sendCell c i) 0 i ∗ dutyTok ER (recvCell (up i c) i) 0 i ∗ atPos ER (sendCell c i) 0 ∅ 0) ∗ bufAt m ρ c (tokQ i)) := by
  unfold sendItem; rw [if_pos h, if_pos le_rfl]
theorem sendItem_sent (s w : ℕ) (h : above c i) (hs : ¬ s ≤ i.val) (hw : w ≤ i.val) :
    sendItem m ρ c s w i = iprop(cred (tallyAt (sendCell c i) () N) ∗ atPos ER (sendCell c i) 0 ∅ 0) := by
  unfold sendItem; rw [if_pos h, if_neg hs, if_pos hw]
theorem sendItem_done (s w : ℕ) (h : above c i) (hs : ¬ s ≤ i.val) (hw : ¬ w ≤ i.val) :
    sendItem m ρ c s w i = iprop(closable m ρ (sendCell c i) ∗ bufAt m ρ c (tokQ i)) := by
  unfold sendItem; rw [if_pos h, if_neg hs, if_neg hw]
theorem recvItem_off (r : ℕ) (h : ¬ below c i) :
    recvItem m ρ c r i = iprop(closable m ρ (recvCell c i) ∗ rowAny c i) := if_neg h
theorem recvItem_todo (h : below c i) :
    recvItem m ρ c i.val i = iprop(cred (tallyAt (recvCell c i) () N) ∗ atPos ER (recvCell c i) 0 ∅ 0) := by
  unfold recvItem; rw [if_pos h, if_pos le_rfl]
theorem recvItem_done (r : ℕ) (h : below c i) (hr : ¬ r ≤ i.val) :
    recvItem m ρ c r i = iprop(closable m ρ (recvCell c i) ∗ rowAt c i (tot m ρ (dn i c))) := by
  unfold recvItem; rw [if_pos h, if_neg hr]

/-- Nothing else changes when the counter passes `i`; -/
theorem gotItem_other {j : Fin 15} (h : j ≠ i) : gotItem (F := F) c (i.val + 1) j = gotItem c i.val j := by
  simp only [gotItem, ne_le h]
theorem sendItem_other (w : ℕ) {j : Fin 15} (h : j ≠ i) : sendItem m ρ c (i.val + 1) w j = sendItem m ρ c i.val w j := by
  simp only [sendItem, ne_le h]
theorem sendItem_other' (s : ℕ) {j : Fin 15} (h : j ≠ i) : sendItem m ρ c s (i.val + 1) j = sendItem m ρ c s i.val j := by
  simp only [sendItem, ne_le h]
theorem recvItem_other {j : Fin 15} (h : j ≠ i) : recvItem m ρ c (i.val + 1) j = recvItem m ρ c i.val j := by
  simp only [recvItem, ne_le h]
/-- and nothing at all when there is no device at that distance. -/
theorem gotItem_skip (h : ¬ above c i) : gotItem (F := F) c i.val = gotItem c (i.val + 1) := funext fun j => by
  by_cases e : j = i
  · subst e; unfold gotItem; rw [if_neg fun e => h e.1, if_neg fun e => h e.1]
  · rw [gotItem_other c i e]
theorem sendItem_skip (w : ℕ) (h : ¬ above c i) : sendItem m ρ c i.val w = sendItem m ρ c (i.val + 1) w := funext fun j => by
  by_cases e : j = i
  · subst e; rw [sendItem_off m ρ c j _ _ h, sendItem_off m ρ c j _ _ h]
  · rw [sendItem_other m ρ c i w e]
theorem sendItem_skip' (s : ℕ) (h : ¬ above c i) : sendItem m ρ c s i.val = sendItem m ρ c s (i.val + 1) := funext fun j => by
  by_cases e : j = i
  · subst e; rw [sendItem_off m ρ c j _ _ h, sendItem_off m ρ c j _ _ h]
  · rw [sendItem_other' m ρ c i s e]
theorem recvItem_skip (h : ¬ below c i) : recvItem m ρ c i.val = recvItem m ρ c (i.val + 1) := funext fun j => by
  by_cases e : j = i
  · subst e; rw [recvItem_off m ρ c j _ h, recvItem_off m ρ c j _ h]
  · rw [recvItem_other m ρ c i e]

end Items

/-! ## Steps -/

section Steps

variable {m ρ}
variable {K : Dev nD × Cell → ℕ} {c : Dev nD} {R : sProp (MT nD τ sig Unit (Elt F) ℕ UU ℕ)} {α : Type}
  {Q : α → sProp (MT nD τ sig Unit (Elt F) ℕ UU ℕ)}

/-- The transfer's rule at the line's cells, to the device `n` at distance `i + 1` above. -/
theorem wp_send_line (i : Fin 15) (ha : above c i) (n : Dev nD) (hn : n = up i c)
    {hsc : (rowM i : Memref sig (Dev.tc n : Thread nD τ).2.kind .vmem S1x512 .f32).view.ref.isScScratch = false}
    {hsrc : (bM : Memref sig .tc .vmem S1x512 .f32).view.WordExact} {hdst : (rowM i).view.WordExact}
    {hsem : DmaTarget.Typed .vmem (.dma (recvS i)) (.remote (Dev.tc n : Thread nD τ) (rowM i) (.dma (sendS i)) hsc)}
    {k : PUnit → Prog (TpuEff nD τ sig (Elt F) Λ₀ .tc) α} (W : Waits sig Unit)
    (fd : Buf (Elt F) ((rowM i).view.loc (up i c : Thread nD τ))) :
    iprop(cellInv ER (lineRd m ρ) (K (c, .inr (.inl i))) (sendCell c i) ∗ cellInv ER (lineRd m ρ) (K (up i c, .inr (.inr i))) (recvCell (up i c) i)
        ∗ bufAt m ρ c (tokQ i) ∗ ((rowM i).view.loc (up i c : Thread nD τ) ↦[(rowM i).view.set]{fullShare} fd)
        ∗ owes (c : Thread nD τ) (dueR c i.val) W
        ∗ dutyTok ER (sendCell c i) 0 i ∗ reached ER (sendCell c i) 0
        ∗ dutyTok ER (recvCell (up i c) i) 0 i ∗ reached ER (recvCell (up i c) i) 0)
      ⊢ iprop(((cred (tallyAt (sendCell c i) () N) ∗ owes (c : Thread nD τ) (dueR c (i.val + 1)) W) -∗ WP c (k ⟨⟩) Q)
          -∗ WP c (.op (.enqueueDma bM (.remote (Dev.tc n : Thread nD τ) (rowM i) (.dma (sendS i)) hsc) (.dma (recvS i)) hsrc hdst hsem) k) Q) := by
  subst hn
  unfold bufAt WP
  exact Rounds.wp_send_pointsTo 𝒱₀ ER (lineRd m ρ) (c : Thread nD τ) none
    (κ₁ := K (c, .inr (.inl i))) (κ₂ := K (up i c, .inr (.inr i))) (r₁ := 0) (r₂ := 0) (d₁ := i) (d₂ := i) (fd := fd)
    ((mem_duties_send m ρ c i i).2 ⟨rfl, ha⟩) ((mem_duties_recv m ρ (up i c) i i).2 ⟨rfl, (below_up i c).2 ha⟩)
    () () N rfl (amount_send m ρ c i i) (amount_recv m ρ (up i c) i i) (dueR c (i.val + 1)) (dueR_step c i ha) (W := W)
    (by rw [payload_send]; exact BI.Entails.refl _)
    (by
      rw [payload_recv, dn_up]; unfold rowAt owns
      iintro H
      iexists ((rowM i).view.write (Elt F) fd ((bM : Memref sig .tc .vmem S1x512 .f32).view.read (Elt F) (tot m ρ c)) Finset.univ)
      isplitr
      · ipureintro
        exact View.read_write_univ _ _
      · iexact H)

/-- The transfer to device `n` into its row `i`. -/
def sendOp (i : Fin 15) (n : Dev nD) : Prog (TpuEff nD τ sig (Elt F) Λ₀ .tc) PUnit :=
  Prog.lift (.enqueueDma bM (.remote (Dev.tc n : Thread nD τ) (rowM i) (.dma (sendS i)) rfl) (.dma (recvS i))
    (Memref.isWhole_whole cc0_scratch1).wordExact ((View.wordExact_bits rfl).reshape _ _) ⟨⟨rfl, Or.inl rfl⟩, trivial⟩)

/-- The transfer to the device at distance `i + 1` above. -/
theorem sendStep (i : Fin 15) {cond : BitVec 1} (hc : cond = 1#1 ↔ above c i) {A : cond = 1#1 → Prog (TpuEff nD τ sig (Elt F) Λ₀ .tc) PUnit}
    (hA : ∀ h, ∃ n, A h = sendOp i n ∧ n = up i c)
    {k : Prog (TpuEff nD τ sig (Elt F) Λ₀ .tc) α} (h : StB m ρ K c 15 (i.val + 1) 0 0 R ⊢ WP c k Q) :
    StB m ρ K c 15 i.val 0 0 R ⊢ WP c (dite (cond = 1#1) (fun h => A h >>= fun _ => k) (fun _ => k)) Q := by
  have hn : ¬ 15 < nAbove c := by simp only [nAbove]; omega
  by_cases ha : above c i
  · have h1 : cond = 1#1 := hc.2 ha
    obtain ⟨n, hA, hdv⟩ := hA h1
    rw [dif_pos h1, hA]
    unfold sendOp
    simp only [Prog.lift, Prog.bind_op, Prog.bind_ret]
    unfold StB owe sendSt at h ⊢
    rw [barSt_done m ρ c hn] at h ⊢
    iintro ⟨#HR, ⟨%W, HO⟩, ⟨HB, HG⟩, HS, HF⟩
    ihave HS := (bigSep_univ_update (Φ := sendItem m ρ c i.val 0) (Ψ := sendItem m ρ c (i.val + 1) 0) i
      fun j hj => sendItem_other m ρ c i 0 hj) $$ HS
    icases HS with ⟨Hi, Hback⟩
    ihave Hi := (Entails.of_eq (sendItem_todo m ρ c i 0 ha)) $$ Hi
    icases Hi with ⟨⟨Ht, Ht', Hat⟩, Hb⟩
    ihave HG := (bigSep_univ_update (Φ := gotItem (F := F) c i.val) (Ψ := gotItem (F := F) c (i.val + 1)) i
      fun j hj => gotItem_other c i hj) $$ HG
    icases HG with ⟨Hrow, HGback⟩
    ihave Hrow := (Entails.of_eq (gotItem_now c i ha)) $$ Hrow
    unfold rowAny rowAt owns
    icases Hrow with ⟨%X, %f, -, Hrow⟩
    ihave #HI := (inv_at m ρ K (c, .inr (.inl i))) $$ HR
    ihave #Hr := (reached_at m ρ K (c, .inr (.inl i))) $$ HR
    ihave #HI' := (inv_at m ρ K (up i c, .inr (.inr i))) $$ HR
    ihave #Hr' := (reached_at m ρ K (up i c, .inr (.inr i))) $$ HR
    iapply (wp_send_line i ha n hdv W f (K := K)) $$ [HO Ht Ht' Hb Hrow]
    · isplitr; · iexact HI
      isplitr; · iexact HI'
      isplitl [Hb]; · iexact Hb
      isplitl [Hrow]; · iexact Hrow
      isplitl [HO]; · iexact HO
      isplitl [Ht]; · iexact Ht
      isplitr; · iexact Hr
      isplitl [Ht']; · iexact Ht'
      iexact Hr'
    iintro ⟨Hc, HO⟩
    iapply h
    isplitr; · iexact HR
    isplitl [HO]; · iexists W; iexact HO
    isplitl [HB HGback]
    · isplitl [HB]; · iexact HB
      iapply HGback; rw [gotItem_done]; iempintro
    isplitl [Hback Hc Hat]
    · iapply Hback
      rw [sendItem_sent m ρ c i _ _ ha (not_le i) (Nat.zero_le _)]
      isplitl [Hc]; · iexact Hc
      iexact Hat
    · iexact HF
  · have h1 : ¬ cond = 1#1 := fun e => ha (hc.1 e)
    rw [dif_neg h1]
    refine BIBase.Entails.trans ?_ h
    unfold StB sendSt
    rw [barSt_done m ρ c hn, barSt_done m ρ c hn, dueR_skip c i ha, sendItem_skip m ρ c i 0 ha, gotItem_skip c i ha]

/-- The wait for what lands from the device at distance `i + 1` below. -/
theorem recvStep (i : Fin 15) {cond : BitVec 1} (hc : cond = 1#1 ↔ below c i) {sR : DmaSem sig} (hsR : sR = recvS i)
    {hsrc : (bM : Memref sig .tc .vmem S1x512 .f32).view.WordExact} {hdst : (rowM i).view.WordExact}
    {k : Prog (TpuEff nD τ sig (Elt F) Λ₀ .tc) α} (h : StB m ρ K c 15 15 (i.val + 1) 0 R ⊢ WP c k Q) :
    StB m ρ K c 15 15 i.val 0 R ⊢ WP c (dite (cond = 1#1) (fun h => Prog.lift (.waitDma2 sR bM (rowM i) hsrc hdst) >>= fun _ => k) (fun _ => k)) Q := by
  subst hsR
  by_cases hb : below c i
  · have h1 : cond = 1#1 := hc.2 hb
    rw [dif_pos h1]
    simp only [Prog.lift, Prog.bind_op, Prog.bind_ret]
    unfold WP at h ⊢
    unfold StB owe recvSt at h ⊢
    rw [dueR_done] at h ⊢
    iintro ⟨#HR, ⟨%W, HO⟩, HB, HS, HV, HF⟩
    ihave HV := (bigSep_univ_update (Φ := recvItem m ρ c i.val) (Ψ := recvItem m ρ c (i.val + 1)) i
      fun j hj => recvItem_other m ρ c i hj) $$ HV
    icases HV with ⟨Hi, Hback⟩
    ihave Hi := (Entails.of_eq (recvItem_todo m ρ c i hb)) $$ Hi
    icases Hi with ⟨Hc, Hat⟩
    ihave #HI := (inv_at m ρ K (c, .inr (.inr i))) $$ HR
    iapply (Rounds.wp_wait_rest_token 𝒱₀ ER (lineRd m ρ) (c : Thread nD τ) none (κ := K (c, .inr (.inr i)))
      (wpE_waitDma2_eq 𝒱₀ (c : Thread nD τ) none Set.univ) (Set.mem_univ _) () (O := 0) (W := W) (R := 0) (m := 0) (T := ∅)
      (by rw [Nat.zero_add, expect_recv m ρ c i hb])) $$ [Hc HO Hat]
    · isplitr; · iexact HI
      isplitl [Hc]; · iexact Hc
      isplitl [HO]; · iexact HO
      isplitr; · rw [MayWait_zero]; iempintro
      iexact Hat
    iintro ⟨HO, Hat, -, Hpay⟩
    ihave Hpay := (Entails.of_eq (rest_recv m ρ c i hb)) $$ Hpay
    iapply h
    isplitr; · iexact HR
    isplitl [HO]; · iexists _; iexact HO
    isplitl [HB]; · iexact HB
    isplitl [HS]; · iexact HS
    isplitr [HF]
    · iapply Hback
      rw [recvItem_done m ρ c i _ hb (not_le i)]
      isplitl [Hat]
      · unfold closable; iexists (0 + 1)
        isplitr; · ipureintro; exact duties_later m ρ _
        iexact Hat
      · iexact Hpay
    · iexact HF
  · have h1 : ¬ cond = 1#1 := fun e => hb (hc.1 e)
    rw [dif_neg h1]
    refine BIBase.Entails.trans ?_ h
    unfold StB recvSt
    rw [recvItem_skip m ρ c i hb]

/-- The wait for the transfer to the device at distance `i + 1` above. -/
theorem doneStep (i : Fin 15) {cond : BitVec 1} (hc : cond = 1#1 ↔ above c i) {sS : DmaSem sig} (hsS : sS = sendS i)
    {hdst : (bM : Memref sig .tc .vmem S1x512 .f32).view.WordExact} {hsrc : (rowM i).view.WordExact}
    {k : Prog (TpuEff nD τ sig (Elt F) Λ₀ .tc) α} (h : StB m ρ K c 15 15 15 (i.val + 1) R ⊢ WP c k Q) :
    StB m ρ K c 15 15 15 i.val R ⊢ WP c (dite (cond = 1#1) (fun h => Prog.lift (.waitDma2 sS (rowM i) bM hsrc hdst) >>= fun _ => k) (fun _ => k)) Q := by
  subst hsS
  by_cases ha : above c i
  · have h1 : cond = 1#1 := hc.2 ha
    rw [dif_pos h1]
    simp only [Prog.lift, Prog.bind_op, Prog.bind_ret]
    unfold WP at h ⊢
    unfold StB owe sendSt at h ⊢
    rw [dueR_done] at h ⊢
    iintro ⟨#HR, ⟨%W, HO⟩, HB, HS, HV, HF⟩
    ihave HS := (bigSep_univ_update (Φ := sendItem m ρ c 15 i.val) (Ψ := sendItem m ρ c 15 (i.val + 1)) i
      fun j hj => sendItem_other' m ρ c i 15 hj) $$ HS
    icases HS with ⟨Hi, Hback⟩
    ihave Hi := (Entails.of_eq (sendItem_sent m ρ c i 15 i.val ha (by omega) le_rfl)) $$ Hi
    icases Hi with ⟨Hc, Hat⟩
    ihave #HI := (inv_at m ρ K (c, .inr (.inl i))) $$ HR
    iapply (Rounds.wp_wait_rest_token 𝒱₀ ER (lineRd m ρ) (c : Thread nD τ) none (κ := K (c, .inr (.inl i)))
      (wpE_waitDma2_eq 𝒱₀ (c : Thread nD τ) none Set.univ) (Set.mem_univ _) () (O := 0) (W := W) (R := 0) (m := 0) (T := ∅)
      (by rw [Nat.zero_add, expect_send m ρ c i ha])) $$ [Hc HO Hat]
    · isplitr; · iexact HI
      isplitl [Hc]; · iexact Hc
      isplitl [HO]; · iexact HO
      isplitr; · rw [MayWait_zero]; iempintro
      iexact Hat
    iintro ⟨HO, Hat, -, Hpay⟩
    ihave Hpay := (Entails.of_eq (rest_send m ρ c i ha)) $$ Hpay
    iapply h
    isplitr; · iexact HR
    isplitl [HO]; · iexists _; iexact HO
    isplitl [HB]; · iexact HB
    isplitr [HV HF]
    · iapply Hback
      rw [sendItem_done m ρ c i 15 _ ha (by omega) (not_le i)]
      isplitl [Hat]
      · unfold closable; iexists (0 + 1)
        isplitr; · ipureintro; exact duties_later m ρ _
        iexact Hat
      · iexact Hpay
    isplitl [HV]; · iexact HV
    iexact HF
  · have h1 : ¬ cond = 1#1 := fun e => ha (hc.1 e)
    rw [dif_neg h1]
    refine BIBase.Entails.trans ?_ h
    unfold StB sendSt
    rw [sendItem_skip' m ρ c i 15 ha]

/-- The load of a row of the landing buffer reads what the row holds. -/
theorem row_load (i : Fin 15) (X : FVec F S1x512 .f32) {hl : rM.view.LoadsAt (rowR i).toLoadRect}
    {k : Vec F S1x1x512 .f32 → Prog (TpuEff nD τ sig (Elt F) Λ₀ .tc) α} :
    rowAt c i X ⊢ iprop((∀ X' : Vec F S1x1x512 .f32, iprop(⌜shapeCast S1x512 X' shapeCasts_S1x1x512_S1x512 = X⌝ ∗ rowAt c i X) -∗ WP c (k X') Q)
      -∗ WP c (.op (.load rM (rowR i).toLoadRect hl) k) Q) := by
  unfold rowAt owns WP
  iintro ⟨%f, %hf, Hp⟩ Hk
  iapply (wp_load_rect 𝒱₀ (c : Thread nD τ) none Set.univ (m := rM) (r := rowR i) (S := (rowM i).view.set) (f := f) (q := fullShare)
    (subset_of_eq (View.set_reshape (rM.view.slice (rowR i)) _).symm)) $$ Hp
  iintro Hp
  iapply Hk
  isplitr; · ipureintro; exact hf
  iexists f
  isplitr; · ipureintro; exact hf
  iexact Hp

/-- The load of row `i` of the landing buffer: what is read is the product of the device at distance `i + 1` below, if
    there is one. -/
theorem rowStep (i : Fin 15) (r : ℕ) (hr : i.val < r) {hl : rM.view.LoadsAt (rowR i).toLoadRect}
    {k : Vec F S1x1x512 .f32 → Prog (TpuEff nD τ sig (Elt F) Λ₀ .tc) α}
    (h : ∀ X : Vec F S1x1x512 .f32, (below c i → shapeCast S1x512 X shapeCasts_S1x1x512_S1x512 = tot m ρ (dn i c)) →
      (StB m ρ K c 15 15 r 0 R ⊢ WP c (k X) Q)) :
    StB m ρ K c 15 15 r 0 R ⊢ WP c (Prog.lift (.load rM (rowR i).toLoadRect hl) >>= k) Q := by
  simp only [Prog.lift, Prog.bind_op, Prog.bind_ret]
  unfold StB recvSt at h ⊢
  iintro ⟨HR, HO, HB, HS, HV, HF⟩
  ihave HV := (bigSep_univ_update (Φ := recvItem m ρ c r) (Ψ := recvItem m ρ c r) i fun j hj => rfl) $$ HV
  icases HV with ⟨Hi, Hback⟩
  by_cases hb : below c i
  · ihave Hi := (Entails.of_eq (recvItem_done m ρ c i r hb (by omega))) $$ Hi
    icases Hi with ⟨Hcl, Hp⟩
    iapply (row_load i _) $$ Hp
    iintro %X' ⟨%hX, Hp⟩
    iapply (h X' (fun _ => hX))
    isplitl [HR]; · iexact HR
    isplitl [HO]; · iexact HO
    isplitl [HB]; · iexact HB
    isplitl [HS]; · iexact HS
    isplitr [HF]
    · iapply Hback; rw [recvItem_done m ρ c i r hb (by omega)]
      isplitl [Hcl]; · iexact Hcl
      iexact Hp
    · iexact HF
  · ihave Hi := (Entails.of_eq (recvItem_off m ρ c i r hb)) $$ Hi
    unfold rowAny
    icases Hi with ⟨Hcl, %X, Hp⟩
    iapply (row_load i X) $$ Hp
    iintro %X' ⟨%hX, Hp⟩
    iapply (h X' (fun hb' => absurd hb' hb))
    isplitl [HR]; · iexact HR
    isplitl [HO]; · iexact HO
    isplitl [HB]; · iexact HB
    isplitl [HS]; · iexact HS
    isplitr [HF]
    · iapply Hback; rw [recvItem_off m ρ c i r hb]
      isplitl [Hcl]; · iexact Hcl
      unfold rowAny; iexists X; iexact Hp
    · iexact HF

end Steps

end Cert.Prefix

end
-- ==== Proof.Factors.lean ====
/-
The kernel's scalar conditions in closed form, and the product of what the devices below contribute.
-/
module

public import proofs.«01_k».proof.Proof.Transfer

@[expose] public section

set_option maxRecDepth 100000

noncomputable section

namespace Cert.Prefix

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The conditions -/

/-- The conditions of the barrier signals and the devices they go to. -/
def sigCond : Fin 15 → Dev nD → BitVec 1 := ![k0_cond1, k0_cond2, k0_cond3, k0_cond4, k0_cond5, k0_cond6, k0_cond7, k0_cond8, k0_cond9, k0_cond10, k0_cond11, k0_cond12, k0_cond13, k0_cond14, k0_cond15]
def sigDev : Fin 15 → Dev nD → ℕ := ![k0_dev1, k0_dev2, k0_dev3, k0_dev4, k0_dev5, k0_dev6, k0_dev7, k0_dev8, k0_dev9, k0_dev10, k0_dev11, k0_dev12, k0_dev13, k0_dev14, k0_dev15]
/-- The conditions of the transfers and the devices they go to. -/
def sendCond : Fin 15 → Dev nD → BitVec 1 := ![k0_cond31, k0_cond32, k0_cond33, k0_cond34, k0_cond35, k0_cond36, k0_cond37, k0_cond38, k0_cond39, k0_cond40, k0_cond41, k0_cond42, k0_cond43, k0_cond44, k0_cond45]
def sendDev : Fin 15 → Dev nD → ℕ := ![k0_dev16, k0_dev17, k0_dev18, k0_dev19, k0_dev20, k0_dev21, k0_dev22, k0_dev23, k0_dev24, k0_dev25, k0_dev26, k0_dev27, k0_dev28, k0_dev29, k0_dev30]

/-- A device's index in the line, as the kernel computes it. -/
abbrev vid (c : Dev nD) : BitVec 32 := Scalar.remsi (Scalar.divsi (Dev.word c) 1#32) 16#32
/-- "There is a device at this distance below" and "above", as the kernel asks it. -/
abbrev geBit (c : Dev nD) (i : Fin 15) : BitVec 1 := Scalar.cmpi .sge (vid c) (BitVec.ofNat 32 (i.val + 1))
abbrev geCond (c : Dev nD) (i : Fin 15) : BitVec 1 := Scalar.cmpi .ne (Scalar.extui (geBit c i)) 0#32
abbrev ltWord (c : Dev nD) (i : Fin 15) : BitVec 32 :=
  Scalar.extui (Scalar.cmpi .slt (Scalar.addi (vid c) (BitVec.ofNat 32 (i.val + 1))) 16#32)
abbrev ltCond (c : Dev nD) (i : Fin 15) : BitVec 1 := Scalar.cmpi .ne (ltWord c i) 0#32

theorem sigCond_iff : ∀ (i : Fin 15) (c : Dev nD), sigCond i c = 1#1 ↔ below c i := by decide +kernel
theorem sigDev_eq : ∀ (i : Fin 15) (c : Dev nD), sigCond i c = 1#1 → sigDev i c = (dn i c).val := by decide +kernel
theorem sendCond_iff : ∀ (i : Fin 15) (c : Dev nD), sendCond i c = 1#1 ↔ above c i := by decide +kernel
theorem sendDev_eq : ∀ (i : Fin 15) (c : Dev nD), sendCond i c = 1#1 → sendDev i c = (up i c).val := by decide +kernel
theorem geBit_iff : ∀ (i : Fin 15) (c : Dev nD), geBit c i = 1#1 ↔ below c i := by decide +kernel
theorem geCond_iff : ∀ (i : Fin 15) (c : Dev nD), geCond c i = 1#1 ↔ below c i := by decide +kernel
theorem ltCond_iff : ∀ (i : Fin 15) (c : Dev nD), ltCond c i = 1#1 ↔ above c i := by decide +kernel

/-! ## The values -/

/-- A row of ones. -/
abbrev ones : FVec F S1x512 .f32 := broadcast S1x512 (Scalar.ofBits .f32 0x3F800000#32)

/-- What distance `i + 1` contributes to device `c`: the product of the device at that distance below, or ones. -/
def fac (c : Dev nD) (i : Fin 15) : FVec F S1x512 .f32 := if below c i then tot m ρ (dn i c) else ones

/-- The product of the first `n` contributions. -/
def eAt (c : Dev nD) : ℕ → FVec F S1x512 .f32
  | 0 => ones
  | n + 1 => mulf (eAt c n) (fac m ρ c (Fin.ofNat 15 n))

/-- The kernel's result on device `c`. -/
def outAt (c : Dev nD) : FVec F S512x512 .f32 := k0_pay13 (k0_pay4 (k0_pay1 (xstg m ρ c))) (eAt m ρ c 15)

section Values
variable {m ρ}
variable {c : Dev nD}

/-- What was read of row `i`: the product of the device at distance `i + 1` below, if there is one. -/
abbrev Landed (m : (ℓ : Loc nD τ sig) → Buf (Elt F) ℓ) (ρ : Dev nD → PrngReg) (c : Dev nD) (i : Fin 15) (X : Vec F S1x1x512 .f32) : Prop :=
  below c i → shapeCast S1x512 X shapeCasts_S1x1x512_S1x512 = tot m ρ (dn i c)

theorem sel_fac (i : Fin 15) {X : Vec F S1x1x512 .f32} (hX : Landed m ρ c i X) :
    Scalar.select (geBit c i) (shapeCast S1x512 X shapeCasts_S1x1x512_S1x512) (ones : FVec F S1x512 .f32) = fac m ρ c i := by
  unfold fac Scalar.select
  by_cases h : below c i
  · simp only [if_pos h, show (geBit c i = 1) = True from eq_true ((geBit_iff i c).2 h), if_true, hX h]
  · simp only [if_neg h, show (geBit c i = 1) = False from eq_false fun e => h ((geBit_iff i c).1 e), if_false]

/-- The kernel's products of contributions, part by part. -/
theorem pay5_eq {X0 : Vec F S1x1x512 .f32} (h0 : Landed m ρ c 0 X0) : k0_pay5 (vid c) X0 = eAt m ρ c 1 :=
  congrArg (mulf ones) (sel_fac 0 h0)
theorem pay8_eq {X1 X2 X3 X4 : Vec F S1x1x512 .f32} (h1 : Landed m ρ c 1 X1) (h2 : Landed m ρ c 2 X2) (h3 : Landed m ρ c 3 X3)
    (h4 : Landed m ρ c 4 X4) : k0_pay8 (vid c) (eAt m ρ c 1) (geBit c 1) (k0_pay6 X1) (k0_pay7 (F := F)) X2 X3 X4 = eAt m ρ c 5 := by
  have e1 := sel_fac 1 h1; have e2 := sel_fac 2 h2; have e3 := sel_fac 3 h3; have e4 := sel_fac 4 h4
  show mulf (mulf (mulf (mulf (eAt m ρ c 1) (Scalar.select (geBit c 1) (shapeCast S1x512 X1 shapeCasts_S1x1x512_S1x512) ones))
    (Scalar.select (geBit c 2) (shapeCast S1x512 X2 shapeCasts_S1x1x512_S1x512) ones))
    (Scalar.select (geBit c 3) (shapeCast S1x512 X3 shapeCasts_S1x1x512_S1x512) ones))
    (Scalar.select (geBit c 4) (shapeCast S1x512 X4 shapeCasts_S1x1x512_S1x512) ones) = _
  rw [e1, e2, e3, e4]; rfl
theorem pay9_eq {X5 X6 X7 : Vec F S1x1x512 .f32} (h5 : Landed m ρ c 5 X5) (h6 : Landed m ρ c 6 X6) (h7 : Landed m ρ c 7 X7) :
    k0_pay9 (vid c) (eAt m ρ c 5) 6#32 X5 X6 X7 = eAt m ρ c 8 := by
  have e5 := sel_fac 5 h5; have e6 := sel_fac 6 h6; have e7 := sel_fac 7 h7
  show mulf (mulf (mulf (eAt m ρ c 5) (Scalar.select (geBit c 5) (shapeCast S1x512 X5 shapeCasts_S1x1x512_S1x512) ones))
    (Scalar.select (geBit c 6) (shapeCast S1x512 X6 shapeCasts_S1x1x512_S1x512) ones))
    (Scalar.select (geBit c 7) (shapeCast S1x512 X7 shapeCasts_S1x1x512_S1x512) ones) = _
  rw [e5, e6, e7]; rfl
theorem pay10_eq {X8 : Vec F S1x1x512 .f32} (h8 : Landed m ρ c 8 X8) : k0_pay10 (vid c) X8 = fac m ρ c 8 := sel_fac 8 h8
theorem pay11_eq {X9 X10 X11 : Vec F S1x1x512 .f32} (h9 : Landed m ρ c 9 X9) (h10 : Landed m ρ c 10 X10) (h11 : Landed m ρ c 11 X11) :
    k0_pay11 (vid c) (eAt m ρ c 8) (fac m ρ c 8) X9 X10 X11 = eAt m ρ c 12 := by
  have e9 := sel_fac 9 h9; have e10 := sel_fac 10 h10; have e11 := sel_fac 11 h11
  show mulf (mulf (mulf (mulf (eAt m ρ c 8) (fac m ρ c 8)) (Scalar.select (geBit c 9) (shapeCast S1x512 X9 shapeCasts_S1x1x512_S1x512) ones))
    (Scalar.select (geBit c 10) (shapeCast S1x512 X10 shapeCasts_S1x1x512_S1x512) ones))
    (Scalar.select (geBit c 11) (shapeCast S1x512 X11 shapeCasts_S1x1x512_S1x512) ones) = _
  rw [e9, e10, e11]; rfl
theorem pay12_eq {X12 X13 X14 : Vec F S1x1x512 .f32} (h12 : Landed m ρ c 12 X12) (h13 : Landed m ρ c 13 X13) (h14 : Landed m ρ c 14 X14) :
    k0_pay12 (vid c) (eAt m ρ c 12) (geBit c 12) X12 X13 X14 = eAt m ρ c 15 := by
  have e12 := sel_fac 12 h12; have e13 := sel_fac 13 h13; have e14 := sel_fac 14 h14
  show mulf (mulf (mulf (eAt m ρ c 12) (Scalar.select (geBit c 12) (shapeCast S1x512 X12 shapeCasts_S1x1x512_S1x512) ones))
    (Scalar.select (geBit c 13) (shapeCast S1x512 X13 shapeCasts_S1x1x512_S1x512) ones))
    (Scalar.select (geBit c 14) (shapeCast S1x512 X14 shapeCasts_S1x1x512_S1x512) ones) = _
  rw [e12, e13, e14]; rfl

end Values

end Cert.Prefix

end
-- ==== Proof.Parts.lean ====
/-
The kernel's parts one by one, what each leaves behind: the signals, the staged argument, the waits for the barrier.
-/
module

public import proofs.«01_k».proof.Proof.Factors

@[expose] public section

set_option maxRecDepth 100000

noncomputable section

namespace Cert.Prefix

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The buffers a device keeps to itself -/

section Bufs
variable (m : (ℓ : Loc nD τ sig) → Buf (Elt F) ℓ) (ρ : Dev nD → PrngReg) (c : Dev nD)

/-- The staged rows of the argument; -/
def xPts : sProp 𝕄 := iprop(((c : Thread nD τ).loc cc0_stg0_0) ↦{fullShare} (xstg m ρ c : Buf (Elt F) ((c : Thread nD τ).loc cc0_stg0_0)))
/-- the result's staging buffer, holding `f`; -/
def oPts (f : Buf (Elt F) ((c : Thread nD τ).loc cc0_stg1_0)) : sProp 𝕄 := iprop(((c : Thread nD τ).loc cc0_stg1_0) ↦{fullShare} f)
/-- the buffer that is sent, holding `f`. -/
def bPts (f : Buf (Elt F) ((c : Thread nD τ).loc cc0_scratch1)) : sProp 𝕄 := iprop(((c : Thread nD τ).loc cc0_scratch1) ↦{fullShare} f)

/-- For the transfer to distance `i + 1`, without the buffer: the rights to it; nothing to do if there is no device. -/
def sendRight (i : Fin 15) : sProp 𝕄 :=
  if above c i then
    iprop(dutyTok ER (sendCell c i) 0 i ∗ dutyTok ER (recvCell (up i c) i) 0 i ∗ atPos ER (sendCell c i) 0 ∅ 0)
  else closable m ρ (sendCell c i)

theorem sendItem_start (i : Fin 15) : sendItem m ρ c 0 0 i = iprop(sendRight m ρ c i ∗ bufAt m ρ c (tokQ i)) := by
  unfold sendItem sendRight
  by_cases h : above c i
  · rw [if_pos h, if_pos h, if_pos (Nat.zero_le _)]
  · rw [if_neg h, if_neg h]

/-- All that waits while the signals are sent. -/
def later : sProp 𝕄 := iprop(barSt m ρ c 0 0 ∗ bigSep Finset.univ (sendRight m ρ c) ∗ recvSt m ρ c 0)

/-- The sent buffer in the shares of the transfers, and what is left over. -/
theorem buf_split : bPts c (tot m ρ c) ⊢ iprop(bufAt m ρ c (Transfers.shareDrop fullShare 15) ∗ bigSep Finset.univ fun i => bufAt m ρ c (tokQ i)) := by
  unfold bPts bufAt
  rw [show (bM : Memref sig .tc .vmem S1x512 .f32).view.set = Finset.univ from View.set_whole _]
  exact Transfers.pointsTo_toks_split fullShare 15
theorem buf_join : iprop(bufAt m ρ c (Transfers.shareDrop fullShare 15) ∗ bigSep Finset.univ fun i => bufAt m ρ c (tokQ i)) ⊢ bPts c (tot m ρ c) := by
  unfold bPts bufAt
  rw [show (bM : Memref sig .tc .vmem S1x512 .f32).view.set = Finset.univ from View.set_whole _]
  exact Transfers.pointsTo_toks_join fullShare 15

/-- From the signals to the rest. -/
theorem turn (K : Dev nD × Cell → ℕ) (R : sProp (MT nD τ sig Unit (Elt F) ℕ UU ℕ)) :
    StA m ρ K c 15 (iprop(xPts m ρ c ∗ bPts c (tot m ρ c) ∗ later m ρ c ∗ R))
      ⊢ StB m ρ K c 0 0 0 0 (iprop(xPts m ρ c ∗ bufAt m ρ c (Transfers.shareDrop fullShare 15) ∗ R)) := by
  unfold StA StB later sendSt
  rw [dueB_done, zero_add, bigSep_congr fun i _ => sendItem_start m ρ c i, bigSep_sep']
  iintro ⟨HR, HO, -, Hx, Hb, ⟨HB, HS, HV⟩, HF⟩
  ihave Hb := (buf_split m ρ c) $$ Hb
  icases Hb with ⟨Hd, Ht⟩
  isplitl [HR]; · iexact HR
  isplitl [HO]; · iexact HO
  isplitl [HB]; · iexact HB
  isplitl [HS Ht]
  · isplitl [HS]; · iexact HS
    iexact Ht
  isplitl [HV]; · iexact HV
  isplitl [Hx]; · iexact Hx
  isplitl [Hd]; · iexact Hd
  iexact HF

end Bufs

section Parts

variable {m : (ℓ : Loc nD τ sig) → Buf (Elt F) ℓ} {ρ : Dev nD → PrngReg}
variable {K : Dev nD × Cell → ℕ} {c : Dev nD} {R : sProp (MT nD τ sig Unit (Elt F) ℕ UU ℕ)}

/-- Returning a value. -/
theorem ret_intro {α : Type} {P : sProp 𝕄} {Q : α → sProp 𝕄} {a : α} (h : P ⊢ Q a) : P ⊢ WP c (pure a) Q := by
  unfold WP; rw [wp_pure]; iintro H; imodintro; iapply h; iexact H

/-- Asking for the device's index. -/
theorem dev_intro {α : Type} {P : sProp 𝕄} {Q : α → sProp 𝕄} {k : Dev nD → Prog (TpuEff nD τ sig (Elt F) Λ₀ .tc) α} (h : P ⊢ WP c (k c) Q) :
    P ⊢ WP c (Prog.lift .deviceId >>= k) Q := by
  unfold WP at h ⊢; simp only [Prog.lift, Prog.bind_op, Prog.bind_ret, wp_deviceId]; exact h

/-- One program after another. -/
theorem seq_intro {α β : Type} {P : sProp 𝕄} {Q : β → sProp 𝕄} {p : Prog (TpuEff nD τ sig (Elt F) Λ₀ .tc) α}
    {k : α → Prog (TpuEff nD τ sig (Elt F) Λ₀ .tc) β} (h : P ⊢ WP c p (fun a => WP c (k a) Q)) : P ⊢ WP c (p >>= k) Q := by
  unfold WP at h ⊢; rw [wp_bind]; exact h

theorem sig_dev (i : Fin 15) {n : ℕ} (e : n = sigDev i c) {lt : n < nD} (h : sigCond i c = 1#1) : (⟨n, lt⟩ : Dev nD) = dn i c :=
  Fin.ext (e.trans (sigDev_eq i c h))
theorem send_dev (i : Fin 15) {n : ℕ} (e : n = sendDev i c) {lt : n < nD} (h : sendCond i c = 1#1) : (⟨n, lt⟩ : Dev nD) = up i c :=
  Fin.ext (e.trans (sendDev_eq i c h))

theorem off2 : (![0, 0] : Fin 2 → Nat) = fun _ => 0 := funext fun a => by fin_cases a <;> rfl

/-- Reading the staged argument. -/
theorem load_x {α : Type} {Q : α → sProp 𝕄} {P : sProp 𝕄} {hl : xM.view.LoadsAt (Rect.unit (s := S512x512) ![0, 0] S512x512.size inb_S512x512_S512x512_0_0).toLoadRect}
    {k : Vec F S512x512 .bf16 → Prog (TpuEff nD τ sig (Elt F) Λ₀ .tc) α} {n : ℕ}
    (h : StA m ρ K c n (iprop(xPts m ρ c ∗ R)) ⊢ WP c (k (xstg m ρ c)) Q) :
    StA m ρ K c n (iprop(xPts m ρ c ∗ R))
      ⊢ WP c (Prog.lift (.load xM (Rect.unit (s := S512x512) ![0, 0] S512x512.size inb_S512x512_S512x512_0_0).toLoadRect hl) >>= k) Q := by
  unfold WP at h ⊢
  simp only [Prog.lift, Prog.bind_op, Prog.bind_ret]
  unfold StA xPts at h ⊢
  iintro ⟨HR, HO, HS, Hx, HF⟩
  iapply (wp_load 𝒱₀ (c : Thread nD τ) none Set.univ (m := xM) (Finset.subset_univ _)) $$ Hx; iintro Hx
  rw [show (xM : Memref sig .tc .vmem S512x512 .bf16).view.readAt (Elt F) (Rect.unit (s := S512x512) ![0, 0] S512x512.size inb_S512x512_S512x512_0_0).toLoadRect (xstg m ρ c)
    = xstg m ρ c from Memref.readAt_unit_zero (Elt F) cc0_stg0_0 off2 _ _]
  iapply h
  isplitl [HR]; · iexact HR
  isplitl [HO]; · iexact HO
  isplitl [HS]; · iexact HS
  isplitl [Hx]; · iexact Hx
  iexact HF

/-- Filling the buffer that is sent. -/
theorem fill_b {α : Type} {Q : α → sProp 𝕄} {P : sProp 𝕄} {v : Vec F S1x512 .f32}
    {hl : bM.view.LoadsAt (Rect.unit (s := S1x512) ![0, 0] S1x512.size inb_S1x512_S1x512_0_0).toLoadRect}
    {h1 h2} {k : Prog (TpuEff nD τ sig (Elt F) Λ₀ .tc) α} (h : iprop(P ∗ bPts c v) ⊢ WP c k Q) :
    iprop(P ∗ ∃ f, bPts c f)
      ⊢ WP c (Prog.lift (.load bM (Rect.unit (s := S1x512) ![0, 0] S1x512.size inb_S1x512_S1x512_0_0).toLoadRect hl) >>= fun _ =>
        Prog.lift (.store bM (Rect.unit (s := S1x512) ![0, 0] S1x512.size inb_S1x512_S1x512_0_0) v Finset.univ h1 h2) >>= fun _ => k) Q := by
  unfold WP at h ⊢
  simp only [Prog.lift, Prog.bind_op, Prog.bind_ret]
  unfold bPts at h ⊢
  iintro ⟨HP, %f, Hb⟩
  iapply (wp_load 𝒱₀ (c : Thread nD τ) none Set.univ (m := bM) (Finset.subset_univ _)) $$ Hb; iintro Hb
  iapply (wp_store 𝒱₀ (c : Thread nD τ) none Set.univ (m := bM) (r := Rect.unit (s := S1x512) ![0, 0] S1x512.size inb_S1x512_S1x512_0_0)
    (Mk := Finset.univ) (Finset.subset_univ _)) $$ Hb; iintro Hb
  rw [show ((bM : Memref sig .tc .vmem S1x512 .f32).access (Rect.unit (s := S1x512) ![0, 0] S1x512.size inb_S1x512_S1x512_0_0)).write (Elt F) f v Finset.univ
    = v from Memref.write_access_unit_zero_univ (Elt F) cc0_scratch1 off2 _ _ _]
  iapply h
  isplitl [HP]; · iexact HP
  iexact Hb

set_option maxHeartbeats 1000000 in
/-- The device's index, and the signals to distances 1 to 8. -/
theorem part1 {Q : (Σ' (d0 : Dev nD) (v2 : BitVec 32), Sems sig S_) → sProp 𝕄}
    (h : StA m ρ K c 8 R ⊢ Q ⟨c, vid c, (SemArray.scalar (sig.barrier 0 rfl))⟩) :
    StA m ρ K c 0 R ⊢ WP c (k0_part1 (F := F) xM (Memref.isWhole_whole _) oM (Memref.isWhole_whole _) rM (Memref.isWhole_whole _)
      bM (Memref.isWhole_whole _) cc0_scratch2 cc0_scratch3) Q := by
  rw [k0_part1_eq_skeleton]; unfold k0_part1_skel
  refine dev_intro ?_
  extract_lets
  refine sigStep 0 (by exact sigCond_iff 0 c) (by exact fun h => sig_dev 0 rfl h) ?_
  refine sigStep 1 (by exact sigCond_iff 1 c) (by exact fun h => sig_dev 1 rfl h) ?_
  refine sigStep 2 (by exact sigCond_iff 2 c) (by exact fun h => sig_dev 2 rfl h) ?_
  refine sigStep 3 (by exact sigCond_iff 3 c) (by exact fun h => sig_dev 3 rfl h) ?_
  refine sigStep 4 (by exact sigCond_iff 4 c) (by exact fun h => sig_dev 4 rfl h) ?_
  refine sigStep 5 (by exact sigCond_iff 5 c) (by exact fun h => sig_dev 5 rfl h) ?_
  refine sigStep 6 (by exact sigCond_iff 6 c) (by exact fun h => sig_dev 6 rfl h) ?_
  refine sigStep 7 (by exact sigCond_iff 7 c) (by exact fun h => sig_dev 7 rfl h) ?_
  exact ret_intro h

set_option maxHeartbeats 1000000 in
/-- The signals to the other distances; then the argument's rows are read. -/
theorem part2 {Q : (Σ' (v51 : FVec F S512x512 .f32), FVec F S8x512 .f32) → sProp 𝕄}
    (h : StA m ρ K c 15 (iprop(xPts m ρ c ∗ R)) ⊢ Q ⟨k0_pay1 (xstg m ρ c), k0_pay2 (xstg m ρ c)⟩) :
    StA m ρ K c 8 (iprop(xPts m ρ c ∗ R)) ⊢ WP c (k0_part2 (F := F) xM (Memref.isWhole_whole _) oM (Memref.isWhole_whole _) rM (Memref.isWhole_whole _)
      bM (Memref.isWhole_whole _) cc0_scratch2 cc0_scratch3 c (vid c) (SemArray.scalar (sig.barrier 0 rfl))) Q := by
  rw [k0_part2_eq_skeleton]; unfold k0_part2_skel
  extract_lets
  refine sigStep 8 (by exact sigCond_iff 8 c) (by exact fun h => sig_dev 8 rfl h) ?_
  refine sigStep 9 (by exact sigCond_iff 9 c) (by exact fun h => sig_dev 9 rfl h) ?_
  refine sigStep 10 (by exact sigCond_iff 10 c) (by exact fun h => sig_dev 10 rfl h) ?_
  refine sigStep 11 (by exact sigCond_iff 11 c) (by exact fun h => sig_dev 11 rfl h) ?_
  refine sigStep 12 (by exact sigCond_iff 12 c) (by exact fun h => sig_dev 12 rfl h) ?_
  refine sigStep 13 (by exact sigCond_iff 13 c) (by exact fun h => sig_dev 13 rfl h) ?_
  refine sigStep 14 (by exact sigCond_iff 14 c) (by exact fun h => sig_dev 14 rfl h) ?_
  refine load_x (P := R) ?_
  exact ret_intro h

set_option maxHeartbeats 1000000 in
/-- The product of the rows is put in the buffer that is sent; the waits for the signals from distances 1 to 5. -/
theorem part3 {Q : BitVec 32 → sProp 𝕄}
    (h : StB m ρ K c 5 0 0 0 (iprop(xPts m ρ c ∗ bufAt m ρ c (Transfers.shareDrop fullShare 15) ∗ R)) ⊢ Q (ltWord c 5)) :
    StA m ρ K c 15 (iprop(xPts m ρ c ∗ (∃ f, bPts c f) ∗ later m ρ c ∗ R))
      ⊢ WP c (k0_part3 (F := F) xM (Memref.isWhole_whole _) oM (Memref.isWhole_whole _) rM (Memref.isWhole_whole _)
      bM (Memref.isWhole_whole _) cc0_scratch2 cc0_scratch3 (vid c) (SemArray.scalar (sig.barrier 0 rfl)) (k0_pay2 (xstg m ρ c))) Q := by
  rw [k0_part3_eq_skeleton]; unfold k0_part3_skel
  extract_lets
  refine BIBase.Entails.trans (Q := iprop((records m ρ K ∗ owe c (dueB c 15 + dueR c 0) ∗ sigSt c 15 ∗ xPts m ρ c ∗ later m ρ c ∗ R) ∗ ∃ f, bPts c f)) ?_ ?_
  · unfold StA
    iintro ⟨HR, HO, HS, Hx, Hb, HL, HF⟩
    isplitr [Hb]
    · isplitl [HR]; · iexact HR
      isplitl [HO]; · iexact HO
      isplitl [HS]; · iexact HS
      isplitl [Hx]; · iexact Hx
      isplitl [HL]; · iexact HL
      iexact HF
    · iexact Hb
  refine fill_b ?_
  refine BIBase.Entails.trans (Q := StB m ρ K c 0 0 0 0 (iprop(xPts m ρ c ∗ bufAt m ρ c (Transfers.shareDrop fullShare 15) ∗ R))) ?_ ?_
  · refine BIBase.Entails.trans ?_ (turn m ρ c K R)
    unfold StA tot
    iintro ⟨⟨HR, HO, HS, Hx, HL, HF⟩, Hb⟩
    isplitl [HR]; · iexact HR
    isplitl [HO]; · iexact HO
    isplitl [HS]; · iexact HS
    isplitl [Hx]; · iexact Hx
    isplitl [Hb]; · iexact Hb
    isplitl [HL]; · iexact HL
    iexact HF
  refine barStep 0 (by exact ltCond_iff 0 c) ?_
  refine barStep 1 (by exact ltCond_iff 1 c) ?_
  refine barStep 2 (by exact ltCond_iff 2 c) ?_
  refine barStep 3 (by exact ltCond_iff 3 c) ?_
  refine barStep 4 (by exact ltCond_iff 4 c) ?_
  exact ret_intro h

set_option maxHeartbeats 1000000 in
/-- The waits for the signals from distances 6 to 13. -/
theorem part4 {Q : BitVec 32 → sProp 𝕄} (h : StB m ρ K c 13 0 0 0 R ⊢ Q 14#32) :
    StB m ρ K c 5 0 0 0 R ⊢ WP c (k0_part4 (F := F) xM (Memref.isWhole_whole _) oM (Memref.isWhole_whole _) rM (Memref.isWhole_whole _)
      bM (Memref.isWhole_whole _) cc0_scratch2 cc0_scratch3 (vid c) (SemArray.scalar (sig.barrier 0 rfl)) (ltWord c 5)) Q := by
  rw [k0_part4_eq_skeleton]; unfold k0_part4_skel
  extract_lets
  refine barStep 5 (by exact ltCond_iff 5 c) ?_
  refine barStep 6 (by exact ltCond_iff 6 c) ?_
  refine barStep 7 (by exact ltCond_iff 7 c) ?_
  refine barStep 8 (by exact ltCond_iff 8 c) ?_
  refine barStep 9 (by exact ltCond_iff 9 c) ?_
  refine barStep 10 (by exact ltCond_iff 10 c) ?_
  refine barStep 11 (by exact ltCond_iff 11 c) ?_
  refine barStep 12 (by exact ltCond_iff 12 c) ?_
  exact ret_intro h

end Parts

end Cert.Prefix

end
-- ==== Proof.PartsSend.lean ====
/-
The kernel's parts one by one, continued: the transfers.
-/
module

public import proofs.«01_k».proof.Proof.Parts

@[expose] public section

set_option maxRecDepth 100000

noncomputable section

namespace Cert.Prefix

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Parts

variable {m : (ℓ : Loc nD τ sig) → Buf (Elt F) ℓ} {ρ : Dev nD → PrngReg}
variable {K : Dev nD × Cell → ℕ} {c : Dev nD} {R : sProp (MT nD τ sig Unit (Elt F) ℕ UU ℕ)}

set_option maxHeartbeats 1000000 in
/-- The waits for the signals from distances 14 and 15, and the transfers to distances 1 to 5. -/
theorem part5 {Q : BitVec 32 → sProp 𝕄} (h : ∀ v, StB m ρ K c 15 5 0 0 R ⊢ Q v) :
    StB m ρ K c 13 0 0 0 R ⊢ WP c (k0_part5 (F := F) xM (Memref.isWhole_whole _) oM (Memref.isWhole_whole _) rM (Memref.isWhole_whole _)
      bM (Memref.isWhole_whole _) cc0_scratch2 cc0_scratch3 c (vid c) (SemArray.scalar (sig.barrier 0 rfl)) 14#32) Q := by
  rw [k0_part5_eq_skeleton]; unfold k0_part5_skel
  extract_lets
  refine barStep 13 (by exact ltCond_iff 13 c) ?_
  refine barStep 14 (by exact ltCond_iff 14 c) ?_
  refine sendStep 0 (by exact sendCond_iff 0 c) (by exact fun h => ⟨_, rfl, send_dev 0 rfl h⟩) ?_
  refine sendStep 1 (by exact sendCond_iff 1 c) (by exact fun h => ⟨_, rfl, send_dev 1 rfl h⟩) ?_
  refine sendStep 2 (by exact sendCond_iff 2 c) (by exact fun h => ⟨_, rfl, send_dev 2 rfl h⟩) ?_
  refine sendStep 3 (by exact sendCond_iff 3 c) (by exact fun h => ⟨_, rfl, send_dev 3 rfl h⟩) ?_
  refine sendStep 4 (by exact sendCond_iff 4 c) (by exact fun h => ⟨_, rfl, send_dev 4 rfl h⟩) ?_
  exact ret_intro (h _)

set_option maxHeartbeats 1000000 in
/-- The transfers to distances 6 to 13. -/
theorem part6 {v : BitVec 32} {Q : BitVec 32 → sProp 𝕄} (h : ∀ v, StB m ρ K c 15 13 0 0 R ⊢ Q v) :
    StB m ρ K c 15 5 0 0 R ⊢ WP c (k0_part6 (F := F) xM (Memref.isWhole_whole _) oM (Memref.isWhole_whole _) rM (Memref.isWhole_whole _)
      bM (Memref.isWhole_whole _) cc0_scratch2 cc0_scratch3 c (vid c) v) Q := by
  rw [k0_part6_eq_skeleton]; unfold k0_part6_skel
  extract_lets
  refine sendStep 5 (by exact sendCond_iff 5 c) (by exact fun h => ⟨_, rfl, send_dev 5 rfl h⟩) ?_
  refine sendStep 6 (by exact sendCond_iff 6 c) (by exact fun h => ⟨_, rfl, send_dev 6 rfl h⟩) ?_
  refine sendStep 7 (by exact sendCond_iff 7 c) (by exact fun h => ⟨_, rfl, send_dev 7 rfl h⟩) ?_
  refine sendStep 8 (by exact sendCond_iff 8 c) (by exact fun h => ⟨_, rfl, send_dev 8 rfl h⟩) ?_
  refine sendStep 9 (by exact sendCond_iff 9 c) (by exact fun h => ⟨_, rfl, send_dev 9 rfl h⟩) ?_
  refine sendStep 10 (by exact sendCond_iff 10 c) (by exact fun h => ⟨_, rfl, send_dev 10 rfl h⟩) ?_
  refine sendStep 11 (by exact sendCond_iff 11 c) (by exact fun h => ⟨_, rfl, send_dev 11 rfl h⟩) ?_
  refine sendStep 12 (by exact sendCond_iff 12 c) (by exact fun h => ⟨_, rfl, send_dev 12 rfl h⟩) ?_
  exact ret_intro (h _)

end Parts

end Cert.Prefix

end
-- ==== Proof.PartsRecv.lean ====
/-
The kernel's parts one by one, continued: what comes from the devices below.
-/
module

public import proofs.«01_k».proof.Proof.Parts

@[expose] public section

set_option maxRecDepth 100000

noncomputable section

namespace Cert.Prefix

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Parts

variable {m : (ℓ : Loc nD τ sig) → Buf (Elt F) ℓ} {ρ : Dev nD → PrngReg}
variable {K : Dev nD × Cell → ℕ} {c : Dev nD} {R : sProp (MT nD τ sig Unit (Elt F) ℕ UU ℕ)}

set_option maxHeartbeats 1000000 in
/-- The transfers to distances 14 and 15; what comes from distances 1 and 2. -/
theorem part7 {w : BitVec 32} {Q : (Σ' (v211 : FVec F S512x512 .f32) (v221 : FVec F S1x512 .f32) (v225 : BitVec 1) (v227 : FVec F S1x512 .f32), FVec F S1x512 .f32) → sProp 𝕄}
    {v : FVec F S512x512 .f32}
    (h : ∀ X1, Landed m ρ c 1 X1 → StB m ρ K c 15 15 2 0 R ⊢ Q ⟨k0_pay4 v, eAt m ρ c 1, geBit c 1, k0_pay6 X1, k0_pay7 (F := F)⟩) :
    StB m ρ K c 15 13 0 0 R ⊢ WP c (k0_part7 (F := F) xM (Memref.isWhole_whole _) oM (Memref.isWhole_whole _) rM (Memref.isWhole_whole _)
      bM (Memref.isWhole_whole _) cc0_scratch2 cc0_scratch3 c (vid c) v w) Q := by
  rw [k0_part7_eq_skeleton]; unfold k0_part7_skel
  extract_lets
  refine sendStep 13 (by exact sendCond_iff 13 c) (by exact fun h => ⟨_, rfl, send_dev 13 rfl h⟩) ?_
  refine sendStep 14 (by exact sendCond_iff 14 c) (by exact fun h => ⟨_, rfl, send_dev 14 rfl h⟩) ?_
  refine recvStep 0 (by exact geCond_iff 0 c) (by rfl) ?_
  refine rowStep 0 1 (by decide) fun X0 h0 => ?_
  refine recvStep 1 (by exact geCond_iff 1 c) (by rfl) ?_
  refine rowStep 1 2 (by decide) fun X1 h1 => ?_
  exact ret_intro (by rw [pay5_eq h0]; exact h X1 h1)

set_option maxHeartbeats 1000000 in
/-- What comes from distances 3 to 5, and the wait for distance 6. -/
theorem part8 {Q : (Σ' (v257 : FVec F S1x512 .f32), BitVec 32) → sProp 𝕄} {X1 : Vec F S1x1x512 .f32} (h1 : Landed m ρ c 1 X1)
    (h : StB m ρ K c 15 15 6 0 R ⊢ Q ⟨eAt m ρ c 5, 6#32⟩) :
    StB m ρ K c 15 15 2 0 R ⊢ WP c (k0_part8 (F := F) xM (Memref.isWhole_whole _) oM (Memref.isWhole_whole _) rM (Memref.isWhole_whole _)
      bM (Memref.isWhole_whole _) cc0_scratch2 cc0_scratch3 (vid c) (eAt m ρ c 1) (geBit c 1) (k0_pay6 X1) (k0_pay7 (F := F))) Q := by
  rw [k0_part8_eq_skeleton]; unfold k0_part8_skel
  extract_lets
  refine recvStep 2 (by exact geCond_iff 2 c) (by rfl) ?_
  refine rowStep 2 3 (by decide) fun X2 h2 => ?_
  refine recvStep 3 (by exact geCond_iff 3 c) (by rfl) ?_
  refine rowStep 3 4 (by decide) fun X3 h3 => ?_
  refine recvStep 4 (by exact geCond_iff 4 c) (by rfl) ?_
  refine rowStep 4 5 (by decide) fun X4 h4 => ?_
  refine recvStep 5 (by exact geCond_iff 5 c) (by rfl) ?_
  exact ret_intro (by rw [pay8_eq h1 h2 h3 h4]; exact h)

set_option maxHeartbeats 1000000 in
/-- What comes from distances 6 to 9. -/
theorem part9 {Q : (Σ' (v284 : FVec F S1x512 .f32), FVec F S1x512 .f32) → sProp 𝕄}
    (h : StB m ρ K c 15 15 9 0 R ⊢ Q ⟨eAt m ρ c 8, fac m ρ c 8⟩) :
    StB m ρ K c 15 15 6 0 R ⊢ WP c (k0_part9 (F := F) xM (Memref.isWhole_whole _) oM (Memref.isWhole_whole _) rM (Memref.isWhole_whole _)
      bM (Memref.isWhole_whole _) cc0_scratch2 cc0_scratch3 (vid c) (eAt m ρ c 5) 6#32) Q := by
  rw [k0_part9_eq_skeleton]; unfold k0_part9_skel
  extract_lets
  refine rowStep 5 6 (by decide) fun X5 h5 => ?_
  refine recvStep 6 (by exact geCond_iff 6 c) (by rfl) ?_
  refine rowStep 6 7 (by decide) fun X6 h6 => ?_
  refine recvStep 7 (by exact geCond_iff 7 c) (by rfl) ?_
  refine rowStep 7 8 (by decide) fun X7 h7 => ?_
  refine recvStep 8 (by exact geCond_iff 8 c) (by rfl) ?_
  refine rowStep 8 9 (by decide) fun X8 h8 => ?_
  exact ret_intro (by rw [pay9_eq h5 h6 h7, pay10_eq h8]; exact h)

end Parts

end Cert.Prefix

end
-- ==== Proof.PartsDone.lean ====
/-
The kernel's parts one by one, continued: the last devices below, and the end of the transfers.
-/
module

public import proofs.«01_k».proof.Proof.Parts

@[expose] public section

set_option maxRecDepth 100000

noncomputable section

namespace Cert.Prefix

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Parts

variable {m : (ℓ : Loc nD τ sig) → Buf (Elt F) ℓ} {ρ : Dev nD → PrngReg}
variable {K : Dev nD × Cell → ℕ} {c : Dev nD} {R : sProp (MT nD τ sig Unit (Elt F) ℕ UU ℕ)}

set_option maxHeartbeats 1000000 in
/-- What comes from distances 10 to 12, and the wait for distance 13. -/
theorem part10 {Q : (Σ' (v320 : FVec F S1x512 .f32), BitVec 1) → sProp 𝕄}
    (h : StB m ρ K c 15 15 13 0 R ⊢ Q ⟨eAt m ρ c 12, geBit c 12⟩) :
    StB m ρ K c 15 15 9 0 R ⊢ WP c (k0_part10 (F := F) xM (Memref.isWhole_whole _) oM (Memref.isWhole_whole _) rM (Memref.isWhole_whole _)
      bM (Memref.isWhole_whole _) cc0_scratch2 cc0_scratch3 (vid c) (eAt m ρ c 8) (fac m ρ c 8)) Q := by
  rw [k0_part10_eq_skeleton]; unfold k0_part10_skel
  extract_lets
  refine recvStep 9 (by exact geCond_iff 9 c) (by rfl) ?_
  refine rowStep 9 10 (by decide) fun X9 h9 => ?_
  refine recvStep 10 (by exact geCond_iff 10 c) (by rfl) ?_
  refine rowStep 10 11 (by decide) fun X10 h10 => ?_
  refine recvStep 11 (by exact geCond_iff 11 c) (by rfl) ?_
  refine rowStep 11 12 (by decide) fun X11 h11 => ?_
  refine recvStep 12 (by exact geCond_iff 12 c) (by rfl) ?_
  exact ret_intro (by rw [pay11_eq h9 h10 h11]; exact h)

set_option maxHeartbeats 1000000 in
/-- What comes from distances 13 to 15; the transfers to distances 1 and 2 are over. -/
theorem part11 {Q : (Σ' (v347 : FVec F S1x512 .f32), BitVec 32) → sProp 𝕄}
    (h : StB m ρ K c 15 15 15 2 R ⊢ Q ⟨eAt m ρ c 15, 3#32⟩) :
    StB m ρ K c 15 15 13 0 R ⊢ WP c (k0_part11 (F := F) xM (Memref.isWhole_whole _) oM (Memref.isWhole_whole _) rM (Memref.isWhole_whole _)
      bM (Memref.isWhole_whole _) cc0_scratch2 cc0_scratch3 (vid c) (eAt m ρ c 12) (geBit c 12)) Q := by
  rw [k0_part11_eq_skeleton]; unfold k0_part11_skel
  extract_lets
  refine rowStep 12 13 (by decide) fun X12 h12 => ?_
  refine recvStep 13 (by exact geCond_iff 13 c) (by rfl) ?_
  refine rowStep 13 14 (by decide) fun X13 h13 => ?_
  refine recvStep 14 (by exact geCond_iff 14 c) (by rfl) ?_
  refine rowStep 14 15 (by decide) fun X14 h14 => ?_
  refine doneStep 0 (by exact ltCond_iff 0 c) (by rfl) ?_
  refine doneStep 1 (by exact ltCond_iff 1 c) (by rfl) ?_
  exact ret_intro (by rw [pay12_eq h12 h13 h14]; exact h)

set_option maxHeartbeats 1000000 in
/-- The transfers to distances 3 to 9 are over. -/
theorem part12 {Q : BitVec 32 → sProp 𝕄} (h : StB m ρ K c 15 15 15 9 R ⊢ Q (ltWord c 9)) :
    StB m ρ K c 15 15 15 2 R ⊢ WP c (k0_part12 (F := F) xM (Memref.isWhole_whole _) oM (Memref.isWhole_whole _) rM (Memref.isWhole_whole _)
      bM (Memref.isWhole_whole _) cc0_scratch2 cc0_scratch3 (vid c) 3#32) Q := by
  rw [k0_part12_eq_skeleton]; unfold k0_part12_skel
  extract_lets
  refine doneStep 2 (by exact ltCond_iff 2 c) (by rfl) ?_
  refine doneStep 3 (by exact ltCond_iff 3 c) (by rfl) ?_
  refine doneStep 4 (by exact ltCond_iff 4 c) (by rfl) ?_
  refine doneStep 5 (by exact ltCond_iff 5 c) (by rfl) ?_
  refine doneStep 6 (by exact ltCond_iff 6 c) (by rfl) ?_
  refine doneStep 7 (by exact ltCond_iff 7 c) (by rfl) ?_
  refine doneStep 8 (by exact ltCond_iff 8 c) (by rfl) ?_
  exact ret_intro h

end Parts

end Cert.Prefix

end
-- ==== Proof.Rows.lean ====
/-
The landing buffer as its rows, and what a device gives back when its kernel is over.
-/
module

public import proofs.«01_k».proof.Proof.Parts

@[expose] public section

set_option maxRecDepth 100000

noncomputable section

namespace Cert.Prefix

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The rows -/

theorem mem_row (i : Fin 15) (x : S15x1x512.Idx) : x ∈ (rowR i).set ↔ (x 0).val = i.val := by
  rw [Rect.mem_set_unit]
  have h1 : (x 1).val < 1 := (x 1).isLt
  have h2 : (x 2).val < 512 := (x 2).isLt
  constructor
  · intro h
    have := h 0
    change i.val ≤ (x 0).val ∧ (x 0).val < i.val + 1 at this
    omega
  · intro h a
    fin_cases a
    · change i.val ≤ (x 0).val ∧ (x 0).val < i.val + 1; omega
    · change 0 ≤ (x 1).val ∧ (x 1).val < 0 + 1; omega
    · change 0 ≤ (x 2).val ∧ (x 2).val < 0 + 512; omega

/-- Row `i`'s places in the buffer. -/
def rowSet (i : Fin 15) : Finset (cc0_scratch0 : Ref sig .tc).ty.Idx := (rowR i).set

theorem row_set (i : Fin 15) : (rowM i).view.set = rowSet i :=
  (View.set_reshape (rM.view.slice (rowR i)) _).trans (View.set_slice_whole cc0_scratch0 (rowR i))

theorem rows_disjoint : ∀ i ∈ (Finset.univ : Finset (Fin 15)), ∀ j ∈ (Finset.univ : Finset (Fin 15)), i ≠ j →
    Disjoint (rowSet i) (rowSet j) := fun i _ j _ hij =>
  Finset.disjoint_left.2 fun x hi hj => hij (Fin.ext (((mem_row i x).1 hi).symm.trans ((mem_row j x).1 hj)))
theorem rows_all : (Finset.univ : Finset (Fin 15)).biUnion rowSet = Finset.univ :=
  Finset.eq_univ_of_forall fun x => Finset.mem_biUnion.2 ⟨⟨(x 0).val, (x 0).isLt⟩, Finset.mem_univ _, (mem_row _ x).2 rfl⟩

/-- The landing buffer, holding `f`. -/
def rPts (c : Dev nD) (f : Buf (Elt F) ((c : Thread nD τ).loc cc0_scratch0)) : sProp 𝕄 := iprop(((c : Thread nD τ).loc cc0_scratch0) ↦{fullShare} f)

theorem rPts_rows (c : Dev nD) (f : Buf (Elt F) ((c : Thread nD τ).loc cc0_scratch0)) :
    rPts c f = bigSep Finset.univ fun i : Fin 15 => ((c : Thread nD τ).loc cc0_scratch0) ↦[rowSet i]{fullShare} f := by
  rw [← pointsTo_biUnion Finset.univ (ℓ := (c : Thread nD τ).loc cc0_scratch0) rowSet rows_disjoint, rows_all]; rfl

/-- The buffer is its rows; -/
theorem rows_split (c : Dev nD) : iprop(∃ f, rPts c f) ⊢ (bigSep Finset.univ (rowAny c) : sProp 𝕄) := by
  have h (f : Buf (Elt F) ((c : Thread nD τ).loc cc0_scratch0)) : (rPts c f : sProp 𝕄) ⊢ bigSep Finset.univ (rowAny c) := by
    rw [rPts_rows]
    have key (i : Fin 15) : (((c : Thread nD τ).loc cc0_scratch0) ↦[rowSet i]{fullShare} f : sProp 𝕄) ⊢ rowAny c i := by
      unfold rowAny rowAt owns
      iintro H
      iexists _; iexists f
      isplitr; · ipureintro; rfl
      rw [row_set]; iexact H
    exact bigSep_mono fun i _ => key i
  iintro ⟨%f, H⟩
  iapply (h f)
  iexact H

/-- and its rows are the buffer. -/
theorem rows_join (c : Dev nD) : (bigSep Finset.univ (rowAny c) : sProp 𝕄) ⊢ iprop(∃ f, rPts c f) := by
  have h : (bigSep Finset.univ (rowAny c) : sProp 𝕄)
      ⊢ bigSep Finset.univ fun i => iprop(∃ f : Buf (Elt F) ((c : Thread nD τ).loc cc0_scratch0), ((c : Thread nD τ).loc cc0_scratch0) ↦[rowSet i]{fullShare} f) := by
    have key (i : Fin 15) : (rowAny c i : sProp 𝕄) ⊢ iprop(∃ f : Buf (Elt F) ((c : Thread nD τ).loc cc0_scratch0), ((c : Thread nD τ).loc cc0_scratch0) ↦[rowSet i]{fullShare} f) := by
      unfold rowAny rowAt owns
      iintro ⟨%X, %f, -, H⟩
      iexists f
      rw [row_set]; iexact H
    exact bigSep_mono fun i _ => key i
  iintro H
  ihave H := h $$ H
  ihave H := (BI.bigSep_exists_pi Finset.univ (fun (i : Fin 15) (f : Buf (Elt F) ((c : Thread nD τ).loc cc0_scratch0)) =>
    (((c : Thread nD τ).loc cc0_scratch0) ↦[rowSet i]{fullShare} f : sProp 𝕄))) $$ H
  icases H with ⟨%fs, H⟩
  ihave H := (pointsTo_biUnion_join Finset.univ rowSet fs (fs 0) rows_disjoint) $$ H
  icases H with ⟨%g, -, H⟩
  iexists g
  unfold rPts
  rw [rows_all]
  iexact H

/-! ## The end -/

section Close

variable {m ρ}
variable {K : Dev nD × Cell → ℕ} {c : Dev nD}

/-- A cell that nobody pays any more closes: its counter is at zero. -/
theorem cell_zero (ck : Dev nD × Cell) : iprop(records m ρ K ∗ closable m ρ (kcell ck)) ⊢ iprop(|={Set.univ}=> semVal (kcell ck) 0) := by
  unfold closable
  iintro ⟨#HR, %r, %hr, Hat⟩
  ihave #HI := (inv_at m ρ K ck) $$ HR
  iapply (Rounds.cell_close ER (lineRd m ρ) (Set.mem_univ (K ck)) (fun h => h) (R := r) hr)
  isplitr; · iexact HI
  iexact Hat

/-- A family of such cells closes. -/
theorem cells_zero (f : Fin 15 → Dev nD × Cell) :
    iprop(records m ρ K ∗ bigSep Finset.univ fun i => closable m ρ (kcell (f i))) ⊢ iprop(|={Set.univ}=> bigSep Finset.univ fun i => semVal (kcell (f i)) 0) :=
  ((sep_mono_left (BI.bigSep_of_persistent Finset.univ (records m ρ K))).trans (by
    rw [← bigSep_sep']; exact bigSep_mono fun i _ => cell_zero (f i))).trans (bigSep_fupd _ _)

theorem sendItem_end (i : Fin 15) : sendItem m ρ c 15 15 i = iprop(closable m ρ (sendCell c i) ∗ bufAt m ρ c (tokQ i)) := by
  unfold sendItem
  have := i.isLt
  by_cases h : above c i
  · rw [if_pos h, if_neg (by omega), if_neg (by omega)]
  · rw [if_neg h]
theorem recvItem_end (i : Fin 15) : recvItem m ρ c 15 i ⊢ iprop(closable m ρ (recvCell c i) ∗ rowAny c i) := by
  unfold recvItem
  have := i.isLt
  by_cases h : below c i
  · rw [if_pos h, if_neg (by omega)]
    iintro ⟨H, HX⟩
    isplitl [H]; · iexact H
    unfold rowAny; iexists _; iexact HX
  · rw [if_neg h]

/-- What a device has when its kernel is over: nothing owed, its buffers, and its counters at zero. -/
def ended (c : Dev nD) : sProp 𝕄 :=
  iprop(owe c 0 ∗ (xPts m ρ c ∗ oPts c (outAt m ρ c)) ∗ ((∃ f, rPts c f) ∗ ∃ f, bPts c f)
    ∗ semVal (barCell c) 0 ∗ (bigSep Finset.univ fun i => semVal (sendCell c i) 0) ∗ bigSep Finset.univ fun i => semVal (recvCell c i) 0)

theorem finish : StB m ρ K c 15 15 15 15 (iprop(xPts m ρ c ∗ bufAt m ρ c (Transfers.shareDrop fullShare 15) ∗ oPts c (outAt m ρ c)))
    ⊢ iprop(|={Set.univ}=> ended (m := m) (ρ := ρ) c) := by
  unfold StB sendSt recvSt ended
  have hV : bigSep Finset.univ (recvItem m ρ c 15) ⊢ bigSep Finset.univ fun i => iprop(closable m ρ (recvCell c i) ∗ rowAny c i) :=
    bigSep_mono fun i _ => recvItem_end i
  rw [dueR_done, barSt_done m ρ c (by have := val_lt c; simp only [nAbove]; omega), bigSep_congr fun i _ => sendItem_end (m := m) (ρ := ρ) (c := c) i, bigSep_sep']
  iintro ⟨#HR, HO, ⟨HB, -⟩, ⟨HS, HT⟩, HV, Hx, Hd, Ho⟩
  ihave HV := hV $$ HV
  ihave HV := (Entails.of_eq (bigSep_sep' Finset.univ (fun i => closable m ρ (recvCell c i)) (fun i => rowAny (F := F) c i))) $$ HV
  icases HV with ⟨HV, Hr⟩
  ihave Hr := (rows_join c) $$ Hr
  ihave Hb := (buf_join m ρ c) $$ [Hd HT]
  · isplitl [Hd]; · iexact Hd
    iexact HT
  imod (cell_zero (m := m) (ρ := ρ) (K := K) (c, .inl ())) $$ [HB] with HB
  · isplitr; · iexact HR
    iexact HB
  imod (cells_zero (m := m) (ρ := ρ) (K := K) fun i => (c, .inr (.inl i))) $$ [HS] with HS
  · isplitr; · iexact HR
    iexact HS
  imod (cells_zero (m := m) (ρ := ρ) (K := K) fun i => (c, .inr (.inr i))) $$ [HV] with HV
  · isplitr; · iexact HR
    iexact HV
  imodintro
  isplitl [HO]; · iexact HO
  isplitl [Hx Ho]
  · isplitl [Hx]; · iexact Hx
    iexact Ho
  isplitl [Hr Hb]
  · isplitl [Hr]; · iexact Hr
    iexists _; iexact Hb
  isplitl [HB]; · iexact HB
  isplitl [HS]; · iexact HS
  iexact HV

end Close

end Cert.Prefix

end
-- ==== Proof.Body.lean ====
/-
The kernel's body: its parts one after another, the last transfers, and the store of the result.
-/
module

public import proofs.«01_k».proof.Proof.PartsSend
public import proofs.«01_k».proof.Proof.PartsRecv
public import proofs.«01_k».proof.Proof.PartsDone
public import proofs.«01_k».proof.Proof.Rows

@[expose] public section

set_option maxRecDepth 100000

noncomputable section

namespace Cert.Prefix

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Body

variable {m : (ℓ : Loc nD τ sig) → Buf (Elt F) ℓ} {ρ : Dev nD → PrngReg}
variable {K : Dev nD × Cell → ℕ} {c : Dev nD}

/-- The load of the result's buffer, whose value is not used. -/
theorem load_o {α : Type} {Q : α → sProp 𝕄} {hl : oM.view.LoadsAt (Rect.unit (s := S512x512) ![0, 0] S512x512.size inb_S512x512_S512x512_0_0).toLoadRect}
    {k : Prog (TpuEff nD τ sig (Elt F) Λ₀ .tc) α} {b s r w : ℕ} {X Y : sProp (MT nD τ sig Unit (Elt F) ℕ UU ℕ)}
    (h : StB m ρ K c b s r w (iprop(X ∗ Y ∗ ∃ f, oPts c f)) ⊢ WP c k Q) :
    StB m ρ K c b s r w (iprop(X ∗ Y ∗ ∃ f, oPts c f))
      ⊢ WP c (Prog.lift (.load oM (Rect.unit (s := S512x512) ![0, 0] S512x512.size inb_S512x512_S512x512_0_0).toLoadRect hl) >>= fun _ => k) Q := by
  unfold WP at h ⊢
  simp only [Prog.lift, Prog.bind_op, Prog.bind_ret]
  unfold StB oPts at h ⊢
  iintro ⟨HR, HO, HB, HS, HV, HX, HY, %f, Ho⟩
  iapply (wp_load 𝒱₀ (c : Thread nD τ) none Set.univ (m := oM) (Finset.subset_univ _)) $$ Ho; iintro Ho
  iapply h
  isplitl [HR]; · iexact HR
  isplitl [HO]; · iexact HO
  isplitl [HB]; · iexact HB
  isplitl [HS]; · iexact HS
  isplitl [HV]; · iexact HV
  isplitl [HX]; · iexact HX
  isplitl [HY]; · iexact HY
  iexists f; iexact Ho

/-- The store of the result. -/
theorem store_o {α : Type} {Q : α → sProp 𝕄} {v : Vec F S512x512 .f32} {h1 h2}
    {k : Prog (TpuEff nD τ sig (Elt F) Λ₀ .tc) α} {b s r w : ℕ} {X Y : sProp (MT nD τ sig Unit (Elt F) ℕ UU ℕ)}
    (h : StB m ρ K c b s r w (iprop(X ∗ Y ∗ oPts c v)) ⊢ WP c k Q) :
    StB m ρ K c b s r w (iprop(X ∗ Y ∗ ∃ f, oPts c f))
      ⊢ WP c (Prog.lift (.store oM (Rect.unit (s := S512x512) ![0, 0] S512x512.size inb_S512x512_S512x512_0_0) v Finset.univ h1 h2) >>= fun _ => k) Q := by
  unfold WP at h ⊢
  simp only [Prog.lift, Prog.bind_op, Prog.bind_ret]
  unfold StB oPts at h ⊢
  iintro ⟨HR, HO, HB, HS, HV, HX, HY, %f, Ho⟩
  iapply (wp_store 𝒱₀ (c : Thread nD τ) none Set.univ (m := oM) (r := Rect.unit (s := S512x512) ![0, 0] S512x512.size inb_S512x512_S512x512_0_0)
    (Mk := Finset.univ) (Finset.subset_univ _)) $$ Ho; iintro Ho
  rw [show ((oM : Memref sig .tc .vmem S512x512 .f32).access (Rect.unit (s := S512x512) ![0, 0] S512x512.size inb_S512x512_S512x512_0_0)).write (Elt F) f v Finset.univ
    = v from Memref.write_access_unit_zero_univ (Elt F) cc0_stg1_0 off2 _ _ _]
  iapply h
  isplitl [HR]; · iexact HR
  isplitl [HO]; · iexact HO
  isplitl [HB]; · iexact HB
  isplitl [HS]; · iexact HS
  isplitl [HV]; · iexact HV
  isplitl [HX]; · iexact HX
  isplitl [HY]; · iexact HY
  iexact Ho

set_option maxHeartbeats 1000000 in
/-- All parts; then the transfers to distances 10 to 15 are over. -/
theorem part13 {Q : FVec F S512x512 .f32 → sProp 𝕄}
    (h : StB m ρ K c 15 15 15 15 (iprop(xPts m ρ c ∗ bufAt m ρ c (Transfers.shareDrop fullShare 15) ∗ ∃ f, oPts c f)) ⊢ Q (outAt m ρ c)) :
    StA m ρ K c 0 (iprop(xPts m ρ c ∗ (∃ f, bPts c f) ∗ later m ρ c ∗ ∃ f, oPts c f))
      ⊢ WP c (k0_part13 (F := F) xM (Memref.isWhole_whole _) oM (Memref.isWhole_whole _) rM (Memref.isWhole_whole _)
      bM (Memref.isWhole_whole _) cc0_scratch2 cc0_scratch3) Q := by
  rw [k0_part13_eq_skeleton]; unfold k0_part13_skel
  refine seq_intro (part1 ?_)
  refine seq_intro (part2 ?_)
  refine seq_intro (part3 ?_)
  refine seq_intro (part4 ?_)
  refine seq_intro (part5 fun v => ?_)
  refine seq_intro (part6 fun v => ?_)
  refine seq_intro (part7 fun X1 h1 => ?_)
  refine seq_intro (part8 h1 ?_)
  refine seq_intro (part9 ?_)
  refine seq_intro (part10 ?_)
  refine seq_intro (part11 ?_)
  refine seq_intro (part12 ?_)
  extract_lets
  refine doneStep 9 (by exact ltCond_iff 9 c) (by rfl) ?_
  refine doneStep 10 (by exact ltCond_iff 10 c) (by rfl) ?_
  refine doneStep 11 (by exact ltCond_iff 11 c) (by rfl) ?_
  refine doneStep 12 (by exact ltCond_iff 12 c) (by rfl) ?_
  refine doneStep 13 (by exact ltCond_iff 13 c) (by rfl) ?_
  refine doneStep 14 (by exact ltCond_iff 14 c) (by rfl) ?_
  refine load_o ?_
  exact ret_intro h

/-- The body of the kernel on device `c`, from what it starts with to what it ends with. -/
theorem body (Q : PUnit → sProp 𝕄) (h : ended (m := m) (ρ := ρ) c ⊢ iprop(|={Set.univ}=> Q ⟨⟩)) :
    StA m ρ K c 0 (iprop(xPts m ρ c ∗ (∃ f, bPts c f) ∗ later m ρ c ∗ ∃ f, oPts c f))
      ⊢ WP c (cc0_body (F := F) xM (Memref.isWhole_whole _) oM (Memref.isWhole_whole _) rM (Memref.isWhole_whole _)
      bM (Memref.isWhole_whole _) cc0_scratch2 cc0_scratch3) Q := by
  rw [cc0_body_eq_skeleton]; unfold cc0_body_skel
  refine seq_intro (part13 ?_)
  refine store_o ?_
  refine (finish (m := m) (ρ := ρ) (K := K) (c := c)).trans ?_
  unfold WP; rw [wp_pure]
  iintro H
  imod H
  iapply h
  iexact H

end Body

end Cert.Prefix

end
-- ==== Proof.Start.lean ====
/-
What a device starts its kernel with, in the form in which the launch deals it, and the pipeline's data: the contents that
are staged, and that the kernel's body takes the one point of its grid from the start to the end.
-/
module

public import proofs.«01_k».proof.Proof.Body

@[expose] public section

set_option maxRecDepth 100000

noncomputable section

namespace Cert.Prefix

open Cert.KernelIdeal Cert.KernelIdeal.Gen

open Idealize.ShloMosaic
open Idealize.ShloMosaic.Pipeline (Dat BodyObligation)
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The start -/

/-- The rights that device `c` pays with: for every distance its signal, its transfer's end here and its transfer's end
    there. (Those that lead around the end of the line are never used.) -/
def payToks (c : Dev nD) : sProp 𝕄 :=
  iprop((bigSep Finset.univ fun i : Fin 15 => dutyTok ER (barCell (dn i c)) 0 i) ∗ (bigSep Finset.univ fun i : Fin 15 => dutyTok ER (sendCell c i) 0 i)
    ∗ bigSep Finset.univ fun i : Fin 15 => dutyTok ER (recvCell (up i c) i) 0 i)

/-- The positions of device `c` at its own cells, all at the start. -/
def poss (c : Dev nD) : sProp 𝕄 :=
  iprop(atPos ER (barCell c) 0 ∅ 0 ∗ (bigSep Finset.univ fun i : Fin 15 => atPos ER (sendCell c i) 0 ∅ 0)
    ∗ bigSep Finset.univ fun i : Fin 15 => atPos ER (recvCell c i) 0 ∅ 0)

/-- The credit for what lands from distance `i + 1`, if there is a device. -/
def credItem (c : Dev nD) (i : Fin 15) : sProp 𝕄 := if below c i then cred (tallyAt (recvCell c i) () N) else iprop(emp)
/-- The credits of device `c`: one unit of its barrier for each device above, and what lands. -/
def creds (c : Dev nD) : sProp 𝕄 := iprop(cred (tallyAt (barCell c) () (nAbove c)) ∗ bigSep Finset.univ (credItem (F := F) c))

/-- Without duties a cell can be closed at once. -/
theorem closable_intro {g : GSem nD τ sig} (h : ∀ r, 0 ≤ r → (lineRd (F := F) m ρ).duties g r = ∅) : atPos ER g 0 ∅ 0 ⊢ closable m ρ g := by
  unfold closable; iintro H; iexists 0
  isplitr; · ipureintro; exact h
  iexact H

theorem bar_start (c : Dev nD) : iprop(atPos ER (barCell c) 0 ∅ 0 ∗ cred (tallyAt (barCell c) () (nAbove c))) ⊢ barSt m ρ c 0 0 := by
  by_cases h : 0 < nAbove c
  · rw [barSt_wait m ρ c h]
    iintro ⟨Hat, Hc⟩
    iexists ∅
    isplitr; · ipureintro; exact Finset.empty_subset _
    isplitl [Hat]; · iexact Hat
    isplitr [Hc]
    · rw [bigSep_empty]; iempintro
    · iexact Hc
  · rw [barSt_done m ρ c h]
    have hc : ¬ c.val < 15 := by simp only [nAbove] at h; omega
    have hg : bigSep Finset.univ (gotItem (F := F) c 0) = (iprop(emp) : sProp 𝕄) := by
      rw [bigSep_congr (Ψ := fun _ => (iprop(emp) : sProp 𝕄)) fun i _ => by
        unfold gotItem; exact if_neg fun h => by have := h.1; simp only [above] at this; omega]
      exact bigSep_emp_const _
    rw [hg]
    iintro ⟨Hat, -⟩
    isplitl [Hat]
    · iapply (closable_intro m ρ (none_bar m ρ c hc)); iexact Hat
    · iempintro

theorem send_start (c : Dev nD) (i : Fin 15) :
    iprop(dutyTok ER (sendCell c i) 0 i ∗ dutyTok ER (recvCell (up i c) i) 0 i ∗ atPos ER (sendCell c i) 0 ∅ 0) ⊢ sendRight m ρ c i := by
  unfold sendRight
  by_cases h : above c i
  · rw [if_pos h]
  · rw [if_neg h]
    iintro ⟨-, -, H⟩
    iapply (closable_intro m ρ (none_send m ρ c i h)); iexact H

/-- Row `i` goes with the signal if there is a device below, and stays otherwise. -/
theorem row_start (c : Dev nD) (i : Fin 15) :
    iprop(dutyTok ER (barCell (dn i c)) 0 i ∗ rowAny c i ∗ atPos ER (recvCell c i) 0 ∅ 0 ∗ credItem c i) ⊢ iprop(sigItem c 0 i ∗ recvItem m ρ c 0 i) := by
  unfold sigItem recvItem credItem
  by_cases h : below c i
  · rw [if_pos h, if_pos ⟨h, Nat.zero_le _⟩, if_pos h, if_pos (Nat.zero_le _)]
    iintro ⟨Ht, Hr, Hat, Hc⟩
    isplitl [Ht Hr]
    · isplitl [Ht]; · iexact Ht
      iexact Hr
    · isplitl [Hc]; · iexact Hc
      iexact Hat
  · rw [if_neg h, if_neg fun h' => h h'.1, if_neg h]
    iintro ⟨-, Hr, Hat, -⟩
    isplitr; · iempintro
    isplitl [Hat]
    · iapply (closable_intro m ρ (none_recv m ρ c i h)); iexact Hat
    · iexact Hr

/-- What a device is dealt is the state in which its kernel starts. -/
theorem state_start (K : Dev nD × Cell → ℕ) (c : Dev nD) (X Y Z : sProp (MT nD τ sig Unit (Elt F) ℕ UU ℕ)) :
    iprop(records m ρ K ∗ (poss c ∗ payToks c) ∗ creds c ∗ owe c (O₀ c) ∗ (∃ f, rPts c f) ∗ X ∗ Y ∗ Z)
      ⊢ StA m ρ K c 0 (iprop(X ∗ Y ∗ later m ρ c ∗ Z)) := by
  have hrow : iprop((bigSep Finset.univ fun i : Fin 15 => dutyTok ER (barCell (dn i c)) 0 i) ∗ (bigSep Finset.univ (rowAny (F := F) c))
      ∗ (bigSep Finset.univ fun i : Fin 15 => atPos ER (recvCell c i) 0 ∅ 0) ∗ bigSep Finset.univ (credItem (F := F) c))
      ⊢ iprop(sigSt c 0 ∗ recvSt m ρ c 0) := by
    unfold sigSt recvSt
    rw [← bigSep_sep', ← bigSep_sep', ← bigSep_sep', ← bigSep_sep']
    exact bigSep_mono fun i _ => row_start m ρ c i
  have hsend : iprop((bigSep Finset.univ fun i : Fin 15 => dutyTok ER (sendCell c i) 0 i)
      ∗ (bigSep Finset.univ fun i : Fin 15 => dutyTok ER (recvCell (up i c) i) 0 i) ∗ bigSep Finset.univ fun i : Fin 15 => atPos ER (sendCell c i) 0 ∅ 0)
      ⊢ bigSep Finset.univ (sendRight m ρ c) := by
    rw [← bigSep_sep', ← bigSep_sep']
    exact bigSep_mono fun i _ => send_start m ρ c i
  unfold StA poss payToks creds later O₀
  iintro ⟨HR, ⟨⟨HaB, HaS, HaV⟩, HtB, HtS, HtV⟩, ⟨HcB, HcV⟩, HO, Hr, HX, HY, HZ⟩
  ihave Hr := (rows_split c) $$ Hr
  ihave Hrow := hrow $$ [HtB Hr HaV HcV]
  · isplitl [HtB]; · iexact HtB
    isplitl [Hr]; · iexact Hr
    isplitl [HaV]; · iexact HaV
    iexact HcV
  icases Hrow with ⟨Hsig, Hrecv⟩
  ihave Hsend := hsend $$ [HtS HtV HaS]
  · isplitl [HtS]; · iexact HtS
    isplitl [HtV]; · iexact HtV
    iexact HaS
  ihave HB := (bar_start m ρ c) $$ [HaB HcB]
  · isplitl [HaB]; · iexact HaB
    iexact HcB
  isplitl [HR]; · iexact HR
  isplitl [HO]; · iexact HO
  isplitl [Hsig]; · iexact Hsig
  isplitl [HX]; · iexact HX
  isplitl [HY]; · iexact HY
  isplitl [HB Hsend Hrecv]
  · isplitl [HB]; · iexact HB
    isplitl [Hsend]; · iexact Hsend
    iexact Hrecv
  · iexact HZ

/-! ## The pipeline's data -/

/-- Everything but its buffers that a device starts with. -/
def start (c : Dev nD) : sProp 𝕄 := iprop((∃ K, records m ρ K ∗ (poss c ∗ payToks c)) ∗ creds c)

/-- Before its point the kernel has this and its two scratch buffers; -/
def Φ₀ (c : Dev nD) : sProp 𝕄 := iprop(start m ρ c ∗ (∃ f, rPts c f) ∗ ∃ f, bPts c f)
/-- after it, the scratch buffers and all counters at zero. -/
def Φ₁ (c : Dev nD) : sProp 𝕄 :=
  iprop(((∃ f, rPts c f) ∗ ∃ f, bPts c f) ∗ semVal (barCell c) 0 ∗ (bigSep Finset.univ fun i => semVal (sendCell c i) 0) ∗ bigSep Finset.univ fun i => semVal (recvCell c i) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

theorem bigSep_W (Φ : Fin cfg0.W → sProp 𝕄) : bigSep Finset.univ Φ = iprop(Φ (0 : Fin 2) ∗ Φ (1 : Fin 2)) := bigSep_W0 Φ
theorem fetch_0 (t : Fin cfg0.N) : (cfg0.win (0 : Fin 2)).fetch t = true := by rw [fin_N t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))
def bodyPost (c : Dev nD) : sProp 𝕄 :=
  iprop(Φ₁ c ∗ (dats m ρ 0 c).owesAt () t₀.succ ∗ stg c cc0_stg0_0 (xstg m ρ c) ∗ stg c cc0_stg1_0 (outAt m ρ c))

/-- What a device ends with, as the pipeline asks it. -/
theorem post_intro (c : Dev nD) : ended (m := m) (ρ := ρ) c ⊢ iprop(|={Set.univ}=> bodyPost m ρ c) := by
  unfold ended bodyPost Φ₁ Dat.owesAt Pipeline.owesWithin owe xPts oPts
  rw [show (dats m ρ 0 c).owed t₀.succ = 0 from rfl]
  iintro ⟨⟨%W, HO⟩, ⟨Hx, Ho⟩, Hbuf, Hsem⟩
  imodintro
  isplitl [Hbuf Hsem]
  · isplitl [Hbuf]; · iexact Hbuf
    iexact Hsem
  isplitl [HO]
  · iexists W
    isplitr; · ipureintro; exact fun _ _ => Or.inl trivial
    iexact HO
  isplitl [Hx]
  · iexists _; isplitr; · (ipureintro; rfl)
    iexact Hx
  iexists _; isplitr; · (ipureintro; rfl)
  iexact Ho

/-- The kernel at its point. -/
theorem sound_body (c : Dev nD) :
    bodyPre m ρ c ⊢ WP c (cc0_body (F := F) xM (Memref.isWhole_whole _) oM (Memref.isWhole_whole _) rM (Memref.isWhole_whole _)
      bM (Memref.isWhole_whole _) cc0_scratch2 cc0_scratch3) (fun _ => bodyPost m ρ c) := by
  unfold bodyPre Φ₀ start
  iintro ⟨⟨⟨⟨%K, HR, Hlin⟩, Hcr⟩, Hr, Hb⟩, Ho, ⟨%d0, %g0, %hg0, Hx⟩, ⟨%d1, %g1, %hg1, Hout⟩⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  iapply (body (m := m) (ρ := ρ) (K := K) (c := c) (fun _ => bodyPost m ρ c) (post_intro m ρ c))
  iapply (state_start m ρ K c)
  isplitl [HR]; · iexact HR
  isplitl [Hlin]; · iexact Hlin
  isplitl [Hcr]; · iexact Hcr
  isplitl [HO]; · unfold owe; iexists W; iexact HO
  isplitl [Hr]; · iexact Hr
  isplitl [Hx]; · unfold xPts; iexact Hx
  isplitl [Hb]; · iexact Hb
  unfold oPts; iexists g1; iexact Hout

set_option maxHeartbeats 800000 in
/-- What the pipeline asks of the kernel on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  have h := sound_body m ρ c
  unfold WP at h
  exact h

end Cert.Prefix

end
-- ==== Proof.Launch.lean ====
/-
The launch: the protocol's ghost state made, its rights dealt along the line, and the credit for what is owed.
-/
module

public import proofs.«01_k».proof.Proof.Start

@[expose] public section

set_option maxRecDepth 100000

noncomputable section

namespace Cert.Prefix

open Cert.KernelIdeal Cert.KernelIdeal.Gen

open Idealize.ShloMosaic
open Idealize.ShloMosaic.Pipeline (Dat BodyObligation)
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The ghost state -/

set_option maxHeartbeats 1000000 in
theorem ownSemFacts : Pipeline.OwnSemFacts cfg0.spec osem := by decide

theorem share_eq (c : Dev nD) (w : Fin cfg0.W) : (dats m ρ 0 c).share w = fullShare := by unfold Dat.share; split <;> rfl

theorem csem_injective : Function.Injective csem := by
  rintro (_ | i | i) (_ | j | j) h
  · rfl
  · exact absurd h.symm (send_ne_bar j)
  · exact absurd h.symm (recv_ne_bar j)
  · exact absurd h (send_ne_bar i)
  · rw [send_inj h]
  · exact absurd h.symm (recv_ne_send j i)
  · exact absurd h (recv_ne_bar i)
  · exact absurd h (recv_ne_send i j)
  · rw [recv_inj h]

theorem kcell_injective : Function.Injective kcell := by
  rintro ⟨c, k⟩ ⟨c', k'⟩ h
  have h1 : c = c' := congrArg (fun g : GSem nD τ sig => g.1.1) h
  subst h1
  rw [show k = k' from csem_injective (congrArg Prod.snd h)]
def lineCells : Finset (GSem nD τ sig) := Finset.univ.map ⟨kcell, kcell_injective⟩

/-- The rights as they are made: for every cell's every distance one. -/
abbrev Tok : Type := Fin 15 ⊕ (Fin 15 ⊕ Fin 15)
abbrev tokOf (cj : Dev nD × Tok) : GSem nD τ sig × ℕ × Fin 15 := match cj.2 with
  | .inl i => (barCell cj.1, 0, i) | .inr (.inl i) => (sendCell cj.1 i, 0, i) | .inr (.inr i) => (recvCell cj.1 i, 0, i)
theorem tokOf_injective : Function.Injective tokOf := by
  rintro ⟨c, j⟩ ⟨c', j'⟩ h
  have h1 : c = c' := by
    have := congrArg (fun x : GSem nD τ sig × ℕ × Fin 15 => x.1.1.1) h
    rcases j with i | i | i <;> rcases j' with i' | i' | i' <;> exact this
  subst h1
  have h2 := congrArg (fun x : GSem nD τ sig × ℕ × Fin 15 => x.1.2) h
  have h3 := congrArg (fun x : GSem nD τ sig × ℕ × Fin 15 => x.2.2) h
  rcases j with i | i | i <;> rcases j' with i' | i' | i'
  · rw [show i = i' from h3]
  · exact absurd h2.symm (send_ne_bar i')
  · exact absurd h2.symm (recv_ne_bar i')
  · exact absurd h2 (send_ne_bar i)
  · rw [show i = i' from h3]
  · exact absurd h2.symm (recv_ne_send i' i)
  · exact absurd h2 (recv_ne_bar i)
  · exact absurd h2 (recv_ne_send i i')
  · rw [show i = i' from h3]
def lineToks : Finset (GSem nD τ sig × ℕ × Fin 15) := Finset.univ.map ⟨tokOf, tokOf_injective⟩

def u₀ : UU :=
  (initOf (Pipeline.cells cfgs cellOf_inj) (Pipeline.launchToks cfgs cellOf_inj), initOf lineCells lineToks)

/-- The rights of device `c`'s own cells. -/
def toks (c : Dev nD) : sProp 𝕄 :=
  iprop((bigSep Finset.univ fun i : Fin 15 => dutyTok ER (barCell c) 0 i) ∗ (bigSep Finset.univ fun i : Fin 15 => dutyTok ER (sendCell c i) 0 i)
    ∗ bigSep Finset.univ fun i : Fin 15 => dutyTok ER (recvCell c i) 0 i)

/-- What is made for device `c`. -/
def G (c : Dev nD) : sProp 𝕄 :=
  iprop((bigSep Finset.univ fun k : Cell => roundState ER (lineRd m ρ) (kcell (c, k)) 0)
    ∗ (bigSep Finset.univ fun k : Cell => iprop(atPos ER (kcell (c, k)) 0 ∅ 0 ∗ reached ER (kcell (c, k)) 0)) ∗ toks c)

/-- What everybody knows but the levels. -/
def recs (K : Dev nD × Cell → ℕ) : sProp 𝕄 :=
  iprop((bigSep Finset.univ fun ck => cellInv ER (lineRd m ρ) (K ck) (kcell ck)) ∗ bigSep Finset.univ fun ck => reached ER (kcell ck) 0)
instance recs_persistent (K : Dev nD × Cell → ℕ) : BI.Persistent (recs m ρ K) := by unfold recs; infer_instance

/-- What device `c` has once the invariants are there. -/
def G' (c : Dev nD) : sProp 𝕄 := iprop(∃ K, recs m ρ K ∗ (poss c ∗ payToks c))

theorem bigSep_cell (Φ : Cell → sProp 𝕄) : bigSep Finset.univ Φ
    = iprop(Φ (.inl ()) ∗ (bigSep Finset.univ fun i => Φ (.inr (.inl i))) ∗ bigSep Finset.univ fun i => Φ (.inr (.inr i))) := by
  rw [BI.bigSep_univ_sum, BI.bigSep_univ_sum, Finset.univ_unique, bigSep_singleton]
  rfl

theorem fund_line : BI.own (ER (initOf lineCells lineToks)) ⊢ (|==> bigSep Finset.univ (G m ρ) : sProp 𝕄) := by
  have hX (Φ : GSem nD τ sig → sProp 𝕄) : bigSep lineCells Φ = bigSep Finset.univ fun c : Dev nD => bigSep Finset.univ fun k : Cell => Φ (kcell (c, k)) := by
    unfold lineCells; rw [bigSep_map, bigSep_univ_prod]; rfl
  have hT : bigSep lineToks (fun x => (dutyTok ER x.1 x.2.1 x.2.2 : sProp 𝕄)) = bigSep Finset.univ fun c : Dev nD => toks c := by
    unfold lineToks; rw [bigSep_map, bigSep_univ_prod]
    exact bigSep_congr fun c _ => by unfold toks; rw [BI.bigSep_univ_sum, BI.bigSep_univ_sum]; rfl
  iintro HX
  imod (Rounds.fund ER (lineRd m ρ) lineCells lineToks) $$ HX with ⟨Hst, Hr, Hat, Htok⟩
  imodintro
  ihave Hst' := (Entails.of_eq (hX fun g => roundState ER (lineRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The kernel's own semaphores: the senders' and the receivers'; -/
theorem ownSems0_eq (c : Dev nD) : (Pipeline.ownSems0 (Ix := Unit) (Name := ℕ) (U := UU) (Lvl := ℕ) (Val := Elt F) (τ := τ) osem c : sProp 𝕄)
    = iprop((bigSep Finset.univ fun i => semVal (sendCell c i) 0) ∗ bigSep Finset.univ fun i => semVal (recvCell c i) 0) := by
  unfold Pipeline.ownSems0; rw [BI.bigSep_univ_sum]; rfl
/-- the barrier semaphore is the only one besides. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Cell => semVal (kcell (c, k)) 0 : sProp 𝕄) := by
  rw [ownSems0_eq, unscopedSems0_eq, bigSep_cell]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (lineRd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Cell => semVal (kcell (c, k)) 0) ∗ bigSep Finset.univ fun k : Cell => roundState ER (lineRd m ρ) (kcell (c, k)) 0)
      ⊢ (|={Set.univ}=> bigSep Finset.univ fun k => iprop(∃ κ : ℕ, cellInv ER (lineRd m ρ) κ (kcell (c, k))) : sProp 𝕄) from by
        rw [← bigSep_sep']
        exact (bigSep_mono fun k _ => (Rounds.body_intro ER (lineRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Per distance the rights move along the line: a barrier's to the device above, a receiver's to the one below. -/
theorem deal (g : Dev nD → Fin 15 → sProp (MT nD τ sig Unit (Elt F) ℕ UU ℕ)) (e : Fin 15 → Dev nD ≃ Dev nD) :
    (bigSep Finset.univ fun c : Dev nD => bigSep Finset.univ fun i : Fin 15 => g c i)
      = bigSep Finset.univ fun c : Dev nD => bigSep Finset.univ fun i : Fin 15 => g (e i c) i := by
  rw [Pipeline.bigSep_univ_comm, Pipeline.bigSep_univ_comm (fun c i => g (e i c) i)]
  exact bigSep_congr fun i _ => bigSep_univ_equiv (e i) (fun c => g c i)

theorem toks_around : (bigSep Finset.univ fun c : Dev nD => (toks c : sProp 𝕄)) ⊢ bigSep Finset.univ fun c : Dev nD => payToks c := by
  unfold toks payToks
  rw [bigSep_sep', bigSep_sep', bigSep_sep', bigSep_sep',
    deal (fun c i => dutyTok ER (barCell c) 0 i) (fun i => (shift i).symm), deal (fun c i => dutyTok ER (recvCell c i) 0 i) shift]
  exact .refl

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (lineRd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Cell => iprop(∃ κ : ℕ, cellInv ER (lineRd m ρ) κ (kcell ck))),
    bigSep_congr (s := Finset.univ) (fun (c : Dev nD) _ => bigSep_sep' Finset.univ (fun k : Cell => (atPos ER (kcell (c, k)) 0 ∅ 0 : sProp 𝕄)) (fun k => reached ER (kcell (c, k)) 0)),
    bigSep_sep', ← bigSep_univ_prod (fun ck : Dev nD × Cell => (reached ER (kcell ck) 0 : sProp 𝕄))]
  iintro ⟨HI, ⟨Hat, #HR⟩, Htok⟩
  ihave HK := (BI.bigSep_exists_pi Finset.univ (fun (ck : Dev nD × Cell) (κ : ℕ) => (cellInv ER (lineRd m ρ) κ (kcell ck) : sProp 𝕄))) $$ HI
  icases HK with ⟨%K, #HI⟩
  ihave Htk := (toks_around (F := F)) $$ Htok
  iapply (bigSep_with_persistent (R := recs m ρ K) (Φ := fun c => iprop(poss c ∗ payToks c)) (Ψ := G' m ρ) fun c _ => by
    unfold G'; iintro ⟨HR, H⟩; iexists K
    isplitl [HR]; · iexact HR
    iexact H)
  isplitr
  · unfold recs; isplitl; · iexact HI
    iexact HR
  · rw [bigSep_sep']
    isplitl [Hat]
    · iapply (show (bigSep Finset.univ fun c : Dev nD => bigSep Finset.univ fun k : Cell => (atPos ER (kcell (c, k)) 0 ∅ 0 : sProp 𝕄)) ⊢ bigSep Finset.univ (fun c => poss c) from
        bigSep_mono fun c _ => show _ ⊢ poss c from Entails.of_eq (by unfold poss; rw [bigSep_cell]))
      iexact Hat
    · iexact Htk

/-- All cells' invariants are made at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

end Cert.Prefix

end
-- ==== Proof.Credit.lean ====
/-
The credit that the launch hands out for what all devices owe.
-/
module

public import proofs.«01_k».proof.Proof.Start

@[expose] public section

set_option maxRecDepth 100000

noncomputable section

namespace Cert.Prefix

open Cert.KernelIdeal Cert.KernelIdeal.Gen

open Idealize.ShloMosaic
open Idealize.ShloMosaic.Pipeline (Dat BodyObligation)
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem bar_eq_iff {a b : Dev nD} : barCell a = barCell b ↔ a = b :=
  ⟨fun h => Fin.ext (congrArg (fun g : GSem nD τ sig => g.1.1.val) h), fun h => h ▸ rfl⟩
theorem recv_eq_iff {a b : Dev nD} {i j : Fin 15} : recvCell a i = recvCell b j ↔ a = b ∧ i = j :=
  ⟨fun h => ⟨Fin.ext (congrArg (fun g : GSem nD τ sig => g.1.1.val) h), recv_inj (congrArg Prod.snd h)⟩, fun ⟨h, h'⟩ => by subst h; subst h'; rfl⟩
theorem recv_ne_bar' {a b : Dev nD} {i : Fin 15} : recvCell a i ≠ barCell b := fun h => recv_ne_bar i (congrArg Prod.snd h)

/-- A sum of tallies at one cell. -/
theorem sum_tally (S : Finset (Fin 15)) (g : Fin 15 → GSem nD τ sig) (k : ℕ) (g' : GSem nD τ sig) :
    (∑ i ∈ S, (tallyAt (g i) () k : CellTallies nD τ sig Unit)) g' () = ∑ i ∈ S, if g' = g i then k else 0 := by
  rw [Finset.sum_apply, Finsupp.finsetSum_apply]
  refine Finset.sum_congr rfl fun i _ => ?_
  rw [tallyAt_apply]
  by_cases h : g' = g i
  · rw [if_pos ⟨h, rfl⟩, if_pos h]
  · rw [if_neg fun h' => h h'.1, if_neg h]

/-- What device `d` owes device `c`'s barrier: a unit if `c` is below it. -/
theorem owed_bar (d c : Dev nD) : O₀ d (barCell c) () = ∑ i ∈ Finset.univ.filter (fun i : Fin 15 => below d i ∧ 0 ≤ i.val), if c = dn i d then 1 else 0 := by
  unfold O₀ dueB dueR
  rw [Pi.add_apply, Finsupp.add_apply, sum_tally, sum_tally]
  rw [show (∑ i ∈ Finset.univ.filter (fun i : Fin 15 => above d i ∧ 0 ≤ i.val), if barCell c = recvCell (up i d) i then N else 0) = 0 from
    Finset.sum_eq_zero fun i _ => if_neg fun h => recv_ne_bar' h.symm, Nat.add_zero]
  refine Finset.sum_congr rfl fun i _ => ?_
  simp only [bar_eq_iff]

/-- What device `d` owes device `c`'s row `j`. -/
theorem owed_recv (d c : Dev nD) (j : Fin 15) :
    O₀ d (recvCell c j) () = ∑ i ∈ Finset.univ.filter (fun i : Fin 15 => above d i ∧ 0 ≤ i.val), if c = up i d ∧ j = i then N else 0 := by
  unfold O₀ dueB dueR
  rw [Pi.add_apply, Finsupp.add_apply, sum_tally, sum_tally]
  rw [show (∑ i ∈ Finset.univ.filter (fun i : Fin 15 => below d i ∧ 0 ≤ i.val), if recvCell c j = barCell (dn i d) then 1 else 0) = 0 from
    Finset.sum_eq_zero fun i _ => if_neg fun h => recv_ne_bar' h, Nat.zero_add]
  refine Finset.sum_congr rfl fun i _ => ?_
  simp only [recv_eq_iff]

theorem total_bar : ∀ c : Dev nD, (∑ d : Dev nD, ∑ i ∈ Finset.univ.filter (fun i : Fin 15 => below d i ∧ 0 ≤ i.val), if c = dn i d then 1 else 0) = nAbove c := by
  decide +kernel

theorem total_recv (c : Dev nD) (j : Fin 15) (k : ℕ) :
    (∑ d : Dev nD, ∑ i ∈ Finset.univ.filter (fun i : Fin 15 => above d i ∧ 0 ≤ i.val), if c = up i d ∧ j = i then k else 0) = if below c j then k else 0 := by
  have h1 (d : Dev nD) : (∑ i ∈ Finset.univ.filter (fun i : Fin 15 => above d i ∧ 0 ≤ i.val), if c = up i d ∧ j = i then k else 0)
      = if d = dn j c then (if below c j then k else 0) else 0 := by
    rw [Finset.sum_filter, Finset.sum_eq_single j (fun i _ hi => by
      by_cases ha : above d i ∧ 0 ≤ i.val
      · rw [if_pos ha, if_neg fun h => hi h.2.symm]
      · rw [if_neg ha]) fun h => absurd (Finset.mem_univ _) h]
    by_cases hd : d = dn j c
    · subst hd
      rw [if_pos rfl, up_dn]
      by_cases hb : below c j
      · rw [if_pos ⟨(above_dn j c).2 hb, Nat.zero_le _⟩, if_pos ⟨rfl, rfl⟩, if_pos hb]
      · rw [if_neg fun h => hb ((above_dn j c).1 h.1), if_neg hb]
    · rw [if_neg hd, if_neg (c := c = up j d ∧ j = j) fun h => hd (by rw [h.1, dn_up]), ite_self]
  rw [Finset.sum_congr rfl fun d _ => h1 d, Finset.sum_ite_eq' Finset.univ (dn j c) fun _ => if below c j then k else 0, if_pos (Finset.mem_univ _)]

theorem launch_bar (c : Dev nD) :
    tallyOn (barCell c) (launchCredit (Pipeline.owing O₀) 0 (barCell c)) = (tallyAt (barCell c) () (nAbove c) : CellTallies nD τ sig Unit) := by
  unfold tallyAt; refine congrArg _ (Finsupp.ext fun u => ?_); cases u
  rw [Pipeline.launchCredit_owing, Finsupp.single_eq_same, Finset.sum_congr rfl fun d _ => owed_bar d c, total_bar]
theorem launch_recv (c : Dev nD) (j : Fin 15) :
    tallyOn (recvCell c j) (launchCredit (Pipeline.owing O₀) 0 (recvCell c j)) = (tallyAt (recvCell c j) () (if below c j then N else 0) : CellTallies nD τ sig Unit) := by
  unfold tallyAt; refine congrArg _ (Finsupp.ext fun u => ?_); cases u
  rw [Pipeline.launchCredit_owing, Finsupp.single_eq_same, Finset.sum_congr rfl fun d _ => owed_recv d c j, total_recv]

/-- The semaphores that credit is handed out for. -/
abbrev credSem : Unit ⊕ Fin 15 → SemLoc sig := fun | .inl _ => .reg barS | .inr i => .dma (recvS i)
theorem credSem_injective : Function.Injective credSem := by
  rintro (_ | i) (_ | j) h
  · rfl
  · exact absurd h.symm (recv_ne_bar j)
  · exact absurd h (recv_ne_bar i)
  · rw [recv_inj h]

/-- Device `c`'s credit. -/
theorem creds_intro (c : Dev nD) : (Pipeline.launchCred O₀ c : sProp 𝕄) ⊢ creds c := by
  unfold Pipeline.launchCred creds
  refine (BI.bigSep_subset (t := Finset.univ.map ⟨credSem, credSem_injective⟩) (Finset.subset_univ _)).trans ?_
  rw [bigSep_map, BI.bigSep_univ_sum, Finset.univ_unique, bigSep_singleton]
  refine BI.sep_mono (Entails.of_eq (congrArg cred (launch_bar c))) ?_
  refine bigSep_mono fun i _ => ?_
  refine (Entails.of_eq (congrArg cred (launch_recv c i))).trans ?_
  unfold credItem
  by_cases h : below c i
  · rw [if_pos h, if_pos h]
  · rw [if_neg h, if_neg h]; iintro -; iempintro

end Cert.Prefix

end
-- ==== Proof.Run.lean ====
/-
The run of the kernel on sixteen devices: every execution ends, with the result that each device's kernel computes, the
argument as it was and all counters at zero.
-/
module

public import proofs.«01_k».proof.Proof.Launch
public import Idealize.ShloMosaic.Lib.Pipeline.CollectiveSegs
public import proofs.«01_k».proof.Proof.Credit

@[expose] public section

set_option maxRecDepth 100000

noncomputable section

namespace Cert.Prefix

open Cert.KernelIdeal Cert.KernelIdeal.Gen

open Idealize.ShloMosaic
open Idealize.ShloMosaic.Pipeline (Dat BodyObligation)
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  unfold G' recs start records
  iintro ⟨-, Hlev, Hcr, -, ⟨%K, ⟨HI, HR⟩, HL⟩⟩
  ihave Hc := (creds_intro (F := F) c) $$ Hcr
  imodintro
  isplitl
  · isplitr [Hc]
    · iexists K
      isplitr [HL]
      · isplitl [HI]; · iexact HI
        isplitl [HR]; · iexact HR
        iexact Hlev
      · iexact HL
    · iexact Hc
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ rPts bPts
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ rPts bPts
  iintro ⟨Hr, HzB, HzS, HzV⟩
  isplitl [HzB]; · iexact HzB
  isplitl [HzS HzV]
  · isplitl [HzS] <;> iassumption
  iexact Hr

theorem stage_not_recv : ∀ (w : Fin cfg0.W) (s : Fin (cfg0.win w).nbuf) (i : Fin 15), (cfg0.win w).sem s ≠ recvS i := by
  decide

theorem waits (c : Dev nD) : (levAts L lv : sProp 𝕄) ⊢ Pipeline.cellsWaits cfgs (dats m ρ) () 0 c :=
  Pipeline.cellsWaits_intro cfgs (dats m ρ) () 0 c fun w s t =>
    mayWait_stage c _ (fun ⟨i, h⟩ => stage_not_recv w s i (SemLoc.dma.inj h)) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- For any float values and from any memory with zero counters, the kernels of all devices end; then each device's arrays
    hold the pipeline's final contents and every counter is at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_line m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument's array holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.Prefix

end
-- ==== Proof.Frames.lean ====
/-
The frames: every execution of the kernel, printed or idealized, and of the reference ends with the argument as it was and
all counters at zero.
-/
module

public import proofs.«01_k».proof.Defs
public import proofs.«01_k».proof.Proof.Run
public import proofs.«01_k».proof.Proof.Gen.Kernel
public import proofs.«01_k».proof.Proof.Gen.ReferenceIdeal.Run
public import Idealize.ShloMosaic.Lib.Quiescent

@[expose] public section

set_option maxRecDepth 100000

noncomputable section

namespace Cert.Prefix

open Idealize.ShloMosaic
open Idealize.ShloMosaic.TcCoe
open Idealize.SL.Sem

variable {F : FTy → Type} [FloatOps F]

/-- At any float values the idealized kernel ends with its argument unchanged and its counters at zero. -/
theorem kernel_frame (m : (ℓ : Loc Cert.KernelIdeal.nD Cert.KernelIdeal.τ Cert.KernelIdeal.sig) → Buf (Elt F) ℓ)
    (g : Dev Cert.KernelIdeal.nD → PrngReg) :
    θ_run (Cert.KernelIdeal.defs (F := F)) (onTc (τ := Cert.KernelIdeal.τ) (Cert.KernelIdeal.main (F := F))) ⟨m, fun _ => 0, g⟩
      (fun r => (∀ c : Dev Cert.KernelIdeal.nD,
        r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0))
        ∧ r.2.sem = fun _ => 0) :=
  (θ_run Cert.KernelIdeal.defs _ _).mono (fun _ h => ⟨fun c => (h.1 c 0).trans (finalA_x m g c), h.2⟩) (run_main m g)

/-- The two printed kernels have one table of kernel bodies. -/
theorem defs0_eq : Cert.Kernel.defs₀ (F := F) = Cert.KernelIdeal.defs₀ (F := F) := by
  funext cls
  cases cls with
  | tc =>
    funext ℓ a
    obtain ⟨n, h⟩ := ℓ
    cases n with
    | zero => exact rfl
    | succ n => exact absurd h (Nat.not_lt.2 (Nat.le_add_left _ _))
  | scScalar _ => rfl
  | scVector _ _ => rfl

/-- … and one table of bodies with the pipeline's. -/
theorem defs_eq : Cert.Kernel.defs (F := F) = Cert.KernelIdeal.defs (F := F) :=
  congrArg (Idealize.ShloMosaic.Pipeline.defs (Cert.KernelIdeal.pcfgs (F := F))) defs0_eq

/-- The printed kernel's frame: the idealization rewrote nothing, so it is the idealized kernel's at bits. -/
theorem frame_kernel : Cert.quiescent_Kernel (hKernel := Cert.Kernel.Gen.facts) := by
  intro m g _
  have h := kernel_frame (F := Bits) m g
  rw [← defs_eq] at h
  exact h

/-- The idealized kernel's frame. -/
theorem frame_kernelIdeal : Cert.quiescent_KernelIdeal (hKernelIdeal := Cert.KernelIdeal.Gen.facts) :=
  fun m g _ => kernel_frame m g

/-- The reference's frame: it declares no semaphore. -/
theorem frame_referenceIdeal : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run m g)

end Cert.Prefix

end
-- ==== Proof.ExpLog.lean ====
/-
Exponentials and logarithms of the extended reals: the exponential turns sums into products, and is the inverse of the
logarithm on the numbers that are not negative.
-/
module

public import Idealize.ShloMosaic.Lib.Pointwise

@[expose] public section

noncomputable section

namespace Cert.Prefix

open Idealize.ShloMosaic
open scoped BigOperators

/-- The exponential of a sum is the product of the exponentials, at the infinities too. -/
theorem exp_add (a b : EReal) : Ideal.exp (a + b) = Ideal.exp a * Ideal.exp b := by
  induction a using EReal.rec with
  | bot => simp
  | top =>
    induction b using EReal.rec with
    | bot => simp
    | top => simp
    | coe r => simp [EReal.top_mul_coe_of_pos (Real.exp_pos r)]
  | coe r =>
    induction b using EReal.rec with
    | bot => simp
    | top => simp [EReal.coe_mul_top_of_pos (Real.exp_pos r)]
    | coe t => rw [← EReal.coe_add, Ideal.exp_coe, Ideal.exp_coe, Ideal.exp_coe, Real.exp_add, EReal.coe_mul]

theorem exp_zero : Ideal.exp 0 = 1 := by
  rw [← EReal.coe_zero, Ideal.exp_coe, Real.exp_zero, EReal.coe_one]

/-- The exponential of a finite sum is the product of the exponentials. -/
theorem exp_sum {ι : Type} (s : Finset ι) (f : ι → EReal) : Ideal.exp (∑ k ∈ s, f k) = ∏ k ∈ s, Ideal.exp (f k) := by
  classical
  induction s using Finset.induction_on with
  | empty => simpa using exp_zero
  | insert a s ha ih => rw [Finset.sum_insert ha, Finset.prod_insert ha, exp_add, ih]

/-- The exponential of the logarithm of a number that is not negative is that number. -/
theorem exp_log {v : EReal} (hv : 0 ≤ v) : Ideal.exp (Ideal.log v) = v := by
  induction v using EReal.rec with
  | bot => exact absurd hv (by simp)
  | top => simp
  | coe r =>
    have hr : 0 ≤ r := EReal.coe_nonneg.1 hv
    rw [Ideal.log_coe]
    split
    · next h =>
      have : r = 0 := le_antisymm h hr
      subst this
      simp
    · next h => rw [Ideal.exp_coe, Real.exp_log (not_le.1 h)]

/-- A term of the sum of logarithms, taken or left out by a factor one or zero, contributes its number or one. -/
theorem exp_ite_mul_log {p : Prop} [Decidable p] {v : EReal} (hv : 0 ≤ v) :
    Ideal.exp ((if p then (1 : EReal) else 0) * Ideal.log v) = if p then v else 1 := by
  split
  · rw [one_mul, exp_log hv]
  · rw [zero_mul, exp_zero]

end Cert.Prefix

end
-- ==== Proof.ColumnProducts.lean ====
/-
The two products a device computes of its own rows, over the extended reals: the product of every column, by halving,
and the product of the rows up to each row, through logarithms.
-/
module

public import proofs.«01_k».proof.Proof.ExpLog
public import proofs.«01_k».proof.Proof.Gen.KernelIdeal.Skeleton
public import Idealize.ShloMosaic.Lib.Pipeline.Value
public import Idealize.ShloMosaic.Lib.DynamicIndex

@[expose] public section

set_option maxRecDepth 100000

noncomputable section

namespace Cert.Prefix

open Cert.KernelIdeal Cert.KernelIdeal.Gen
open Idealize.ShloMosaic
open scoped BigOperators

/-- The product of column `l` of an array of `h` rows. -/
def colProd {h : ℕ} (x : (⟨2, ![h, 512]⟩ : Shape).Idx → EReal) (l : Fin 512) : EReal := ∏ k : Fin h, x (ix2 k l)

/-- Multiplying the lower half of the rows into the upper half leaves the product of every column. -/
theorem colProd_halves (h H : ℕ) (hH : H = h + h) (x : (⟨2, ![H, 512]⟩ : Shape).Idx → EReal)
    (h0 : (⟨2, ![H, 512]⟩ : Shape).Slices ![0, 0] ⟨2, ![h, 512]⟩) (h1 : (⟨2, ![H, 512]⟩ : Shape).Slices ![h, 0] ⟨2, ![h, 512]⟩)
    (l : Fin 512) :
    colProd (mulf (F := Ideal) (φ := .f32) (extractStridedSlice ⟨2, ![h, 512]⟩ ![0, 0] x h0) (extractStridedSlice ⟨2, ![h, 512]⟩ ![h, 0] x h1)) l
      = colProd x l := by
  subst hH
  unfold colProd
  rw [Fin.prod_univ_add, ← Finset.prod_mul_distrib]
  refine Finset.prod_congr rfl fun k _ => congrArg₂ (· * ·) (congrArg x (Shape.idx_ext₂ ?_ ?_)) (congrArg x (Shape.idx_ext₂ ?_ ?_))
  · show 0 + k.val = k.val; omega
  · show 0 + l.val = l.val; omega
  · rfl
  · show 0 + l.val = l.val; omega

/-- A device's rows read as numbers. -/
theorem rows_apply (x : S512x512.Idx → EReal) (j : S512x512.Idx) : k0_pay1 (F := Ideal) x j = x j := by
  unfold k0_pay1
  simp only [pointwise]

/-- What a device sends: the product of each column of its rows. -/
theorem total_apply (x : S512x512.Idx → EReal) (l : Fin 512) :
    k0_pay3 (F := Ideal) (k0_pay2 (F := Ideal) x) (ix2 0 l) = ∏ k : Fin 512, x (ix2 k l) := by
  have h3 (y : S8x512.Idx → EReal) : k0_pay3 (F := Ideal) y (ix2 0 l) = colProd (h := 8) y l := by
    refine Eq.trans ?_ (colProd_halves 4 8 rfl y slices_S8x512_o0_0_S4x512 slices_S8x512_o4_0_S4x512 l)
    refine Eq.trans ?_ (colProd_halves 2 4 rfl _ slices_S4x512_o0_0_S2x512 slices_S4x512_o2_0_S2x512 l)
    refine Eq.trans ?_ (colProd_halves 1 2 rfl _ slices_S2x512_o0_0_S1x512 slices_S2x512_o1_0_S1x512 l)
    unfold colProd
    rw [Fin.prod_univ_one]
    unfold k0_pay3
    exact shapeCast_apply _ shapeCasts_S1x512_S1x512 _ _ rfl
  rw [h3]
  refine (colProd_halves 8 16 rfl _ slices_S16x512_o0_0_S8x512 slices_S16x512_o8_0_S8x512 l).trans ?_
  refine (colProd_halves 16 32 rfl _ slices_S32x512_o0_0_S16x512 slices_S32x512_o16_0_S16x512 l).trans ?_
  refine (colProd_halves 32 64 rfl _ slices_S64x512_o0_0_S32x512 slices_S64x512_o32_0_S32x512 l).trans ?_
  refine (colProd_halves 64 128 rfl _ slices_S128x512_o0_0_S64x512 slices_S128x512_o64_0_S64x512 l).trans ?_
  refine (colProd_halves 128 256 rfl _ slices_S256x512_o0_0_S128x512 slices_S256x512_o128_0_S128x512 l).trans ?_
  refine (colProd_halves 256 512 rfl _ slices_S512x512_o0_0_S256x512 slices_S512x512_o256_0_S256x512 l).trans ?_
  exact Finset.prod_congr rfl fun k _ => rows_apply x _

/-- An entry of the triangle: one on and below the diagonal, zero above it. -/
theorem triangle_apply (r k : ℕ) (hr : r < 512) (hk : k < 512) :
    (FloatOps.sitofp .f32 (BitVec.setWidth 32 (IntOp.cmpi .sle (BitVec.ofNat 32 k) (BitVec.ofNat 32 r))) : Ideal .f32)
      = (if k ≤ r then (1 : EReal) else 0) := by
  have hs : (BitVec.ofNat 32 k).sle (BitVec.ofNat 32 r) = decide (k ≤ r) := by
    rw [BitVec.sle_eq_decide, toInt_ofNat_of_lt (by omega), toInt_ofNat_of_lt (by omega)]
    simp
  show (((BitVec.setWidth 32 (BitVec.ofBool ((BitVec.ofNat 32 k).sle (BitVec.ofNat 32 r)))).toInt : ℝ) : EReal) = _
  rw [hs]
  by_cases h : k ≤ r
  · rw [if_pos h, decide_eq_true h, show (BitVec.setWidth 32 (BitVec.ofBool true)).toInt = 1 by decide]; simp
  · rw [if_neg h, decide_eq_false h, show (BitVec.setWidth 32 (BitVec.ofBool false)).toInt = 0 by decide]; simp

/-- The exponential of the sum of the logarithms of the rows up to `r` is their product, when none is negative. -/
theorem upTo_apply (x : S512x512.Idx → EReal) (hx : ∀ j, 0 ≤ x j) (r l : Fin 512) :
    k0_pay4 (F := Ideal) x (ix2 r l) = ∏ k : Fin 512, if k.val ≤ r.val then x (ix2 k l) else 1 := by
  unfold k0_pay4
  simp only [pointwise]
  rw [zero_add, exp_sum]
  refine Finset.prod_congr rfl fun k _ => ?_
  refine Eq.trans (congrArg (fun t => Ideal.exp (t * Ideal.log (x (ix2 k l)))) ?_) (exp_ite_mul_log (p := k.val ≤ r.val) (hx _))
  refine Eq.trans ?_ (triangle_apply r.val k.val r.isLt k.isLt)
  simp only [List.foldl]
  simp

/-- The result of a device: each of its rows' products times the row it has of the devices below. -/
theorem result_apply (a : S512x512.Idx → EReal) (e : S1x512.Idx → EReal) (r l : Fin 512) :
    k0_pay13 (F := Ideal) a e (ix2 r l) = a (ix2 r l) * e (ix2 0 l) := by
  unfold k0_pay13
  simp only [pointwise]
  refine congrArg (a (ix2 r l) * ·) (congrArg e (Shape.idx_ext₂ rfl rfl))

end Cert.Prefix

end
-- ==== Proof.LineProduct.lean ====
/-
The result of a device as one product: the rows up to `r` of its own block times all rows of the blocks below it are the
rows `0 … 512·c + r` of the whole array.
-/
module

public import proofs.«01_k».proof.Proof.ColumnProducts
public import proofs.«01_k».proof.Proof.Factors

@[expose] public section

set_option maxRecDepth 100000

noncomputable section

namespace Cert.Prefix

open Cert.KernelIdeal Cert.KernelIdeal.Gen
open Idealize.ShloMosaic Idealize.ShloMosaic.TcCoe
open scoped BigOperators

/-! ## Products over an initial part of a range -/

/-- A product over `Fin N` that takes only the first `n` factors. -/
theorem prod_first {N n : ℕ} (h : n ≤ N) (f : ℕ → EReal) :
    (∏ k : Fin N, if k.val < n then f k.val else 1) = ∏ k ∈ Finset.range n, f k := by
  rw [Fin.prod_univ_eq_prod_range (fun k => if k < n then f k else 1) N, ← Finset.prod_filter]
  refine Finset.prod_congr (Finset.ext fun k => ?_) fun _ _ => rfl
  simp only [Finset.mem_filter, Finset.mem_range]
  omega

/-- The product of `c` blocks of 512 factors. -/
theorem prod_blocks (f : ℕ → EReal) (c : ℕ) :
    ∏ i ∈ Finset.range (c * 512), f i = ∏ d ∈ Finset.range c, ∏ k ∈ Finset.range 512, f (d * 512 + k) := by
  induction c with
  | zero => simp
  | succ c ih => rw [Nat.succ_mul, Finset.prod_range_add f (c * 512) 512, ih, Finset.prod_range_succ _ c]

/-- The rows up to `r` of block `c` and all rows of the blocks below it, as one product. -/
theorem prod_line (f : ℕ → EReal) (c : Fin 16) (r : Fin 512) :
    (∏ k : Fin 512, if k.val ≤ r.val then f (c.val * 512 + k.val) else 1)
        * (∏ d : Fin 16, if d.val < c.val then ∏ k : Fin 512, f (d.val * 512 + k.val) else 1)
      = ∏ i ∈ Finset.range (c.val * 512 + r.val + 1), f i := by
  have h1 : (∏ k : Fin 512, if k.val ≤ r.val then f (c.val * 512 + k.val) else 1)
      = ∏ k ∈ Finset.range (r.val + 1), f (c.val * 512 + k) := by
    refine Eq.trans (Finset.prod_congr rfl fun k _ => ?_) (prod_first r.isLt fun k => f (c.val * 512 + k))
    exact if_congr (by omega) rfl rfl
  have h2 : (∏ d : Fin 16, if d.val < c.val then ∏ k : Fin 512, f (d.val * 512 + k.val) else 1)
      = ∏ d ∈ Finset.range c.val, ∏ k ∈ Finset.range 512, f (d * 512 + k) := by
    refine Eq.trans (Finset.prod_congr rfl fun d _ => ?_) (prod_first c.isLt.le fun d => ∏ k ∈ Finset.range 512, f (d * 512 + k))
    rw [Fin.prod_univ_eq_prod_range (fun k => f (d.val * 512 + k)) 512]
  rw [h1, h2, ← prod_blocks, Nat.add_assoc, Finset.prod_range_add f (c.val * 512) (r.val + 1), mul_comm]

/-! ## The devices below -/

theorem dn_lt : ∀ (c : Dev nD) (i : Fin 15), below c i → (dn i c).val < c.val := by decide +kernel
theorem dn_inj : ∀ (c : Dev nD) (i j : Fin 15), below c i → below c j → dn i c = dn j c → i = j := by decide +kernel
theorem dn_surj : ∀ (c d : Dev nD), d.val < c.val → ∃ i : Fin 15, below c i ∧ dn i c = d := by decide +kernel

/-- The devices below, by distance or by index. -/
theorem prod_below (c : Dev nD) (f : Dev nD → EReal) :
    (∏ i : Fin 15, if below c i then f (dn i c) else 1) = ∏ d : Fin 16, if d.val < c.val then f d else 1 := by
  rw [← Finset.prod_filter, ← Finset.prod_filter]
  refine Finset.prod_nbij (fun i => dn i c) ?_ ?_ ?_ fun _ _ => rfl
  · intro i hi
    exact Finset.mem_filter.2 ⟨Finset.mem_univ _, dn_lt c i (Finset.mem_filter.1 hi).2⟩
  · intro i hi j hj e
    exact dn_inj c i j (Finset.mem_filter.1 (Finset.mem_coe.1 hi)).2 (Finset.mem_filter.1 (Finset.mem_coe.1 hj)).2 e
  · intro d hd
    obtain ⟨i, hi, e⟩ := dn_surj c d (Finset.mem_filter.1 (Finset.mem_coe.1 hd)).2
    exact ⟨i, Finset.mem_coe.2 (Finset.mem_filter.2 ⟨Finset.mem_univ _, hi⟩), e⟩

/-! ## The kernel's result -/

variable (m : (ℓ : Loc nD τ sig) → Buf (Elt Ideal) ℓ) (ρ : Dev nD → PrngReg)

/-- What a distance contributes to column `l`. -/
theorem fac_apply (c : Dev nD) (i : Fin 15) (l : Fin 512) :
    fac (F := Ideal) m ρ c i (ix2 0 l) = if below c i then tot (F := Ideal) m ρ (dn i c) (ix2 0 l) else 1 := by
  unfold fac
  split
  · rfl
  · exact Ideal.ofBits_one_f32

/-- The first `n` contributions to column `l`, multiplied. -/
theorem eAt_apply (c : Dev nD) (l : Fin 512) : ∀ n : ℕ,
    eAt (F := Ideal) m ρ c n (ix2 0 l) = ∏ i ∈ Finset.range n, fac (F := Ideal) m ρ c (Fin.ofNat 15 i) (ix2 0 l)
  | 0 => by rw [Finset.range_zero, Finset.prod_empty]; exact Ideal.ofBits_one_f32
  | n + 1 => by rw [Finset.prod_range_succ, ← eAt_apply c l n]; rfl

/-- All contributions to column `l`: the columns of the devices below. -/
theorem eAt_all (c : Dev nD) (l : Fin 512) :
    eAt (F := Ideal) m ρ c 15 (ix2 0 l)
      = ∏ d : Fin 16, if d.val < c.val then tot (F := Ideal) m ρ (d : Dev nD) (ix2 0 l) else 1 := by
  rw [eAt_apply, ← prod_below c fun d => tot (F := Ideal) m ρ d (ix2 0 l), Finset.prod_range]
  refine Finset.prod_congr rfl fun i _ => ?_
  rw [show Fin.ofNat 15 i.val = i from Fin.ext (Nat.mod_eq_of_lt i.isLt), fac_apply]

/-- The result of a device is the product of the rows `0 … 512·c + r`, where `x d` is the block of device `d` and `f l i`
    the entry of column `l` in row `i` of the whole array, none of them negative. -/
theorem outAt_apply (x : Dev nD → S512x512.Idx → EReal) (f : Fin 512 → ℕ → EReal) (hx : ∀ d, xstg (F := Ideal) m ρ d = x d)
    (hf : ∀ (d : Dev nD) (k l : Fin 512), x d (ix2 k l) = f l (d.val * 512 + k.val)) (hpos : ∀ (d : Dev nD) (j : S512x512.Idx), 0 ≤ x d j)
    (c : Dev nD) (r l : Fin 512) :
    outAt (F := Ideal) m ρ c (ix2 r l) = ∏ i ∈ Finset.range (c.val * 512 + r.val + 1), f l i := by
  have e1 : k0_pay1 (F := Ideal) (x c) = x c := funext fun j => rows_apply _ j
  unfold outAt
  refine (result_apply _ _ r l).trans ?_
  rw [eAt_all, ← prod_line (f l) c r, hx]
  refine congrArg₂ (· * ·) ?_ (Finset.prod_congr rfl fun d _ => if_congr Iff.rfl ?_ rfl)
  · rw [e1]
    exact (upTo_apply _ (hpos c) r l).trans (Finset.prod_congr rfl fun k _ => if_congr Iff.rfl (hf c k l) rfl)
  · unfold tot
    rw [hx]
    exact (total_apply _ l).trans (Finset.prod_congr rfl fun k _ => hf d k l)

end Cert.Prefix

end
-- ==== Proof.ScanValue.lean ====
/-
What the reference computes over the reals: row `r` of its result is the product of the rows `0 … r` of its argument.
-/
module

public import proofs.«01_k».proof.Proof.Gen.ReferenceIdeal.Run
public import Idealize.ShloMosaic.Lib.Pointwise
public import Idealize.ShloMosaic.Lib.DynamicIndex
public import Idealize.ShloMosaic.Lib.Pipeline.Value

@[expose] public section

set_option maxRecDepth 100000

noncomputable section

namespace Cert.Prefix.Scan

open Cert.ReferenceIdeal Cert.ReferenceIdeal.Gen Cert.ReferenceIdeal.Value
open Idealize.ShloMosaic Idealize.ShloMosaic.TcCoe Idealize.ShloMosaic.StableHlo
open Idealize.SL.Sem
open scoped BigOperators

/-- The entry of column `l` in row `i`, and one below the last row. -/
def entry (A : S8192x512.Idx → EReal) (l : Fin 512) (i : ℕ) : EReal := if h : i < 8192 then A (ix2 ⟨i, h⟩ l) else 1

/-- The product of the first `n` entries of column `l`. -/
def prefixProd (A : S8192x512.Idx → EReal) (l : Fin 512) (n : ℕ) : EReal := ∏ i ∈ Finset.range n, entry A l i

theorem prefixProd_succ (A : S8192x512.Idx → EReal) (l : Fin 512) (n : ℕ) :
    prefixProd A l (n + 1) = prefixProd A l n * entry A l n := Finset.prod_range_succ _ _

/-- What the reference returns of the array `A`. -/
def scanned (A : S8192x512.Idx → EReal) : S8192x512.Idx → EReal := fun j => prefixProd A (j 1) ((j 0).val + 1)

/-- What the loop carries before trip `n`: the array, the counter, the running products and the rows written so far. -/
structure Inv (A : S8192x512.Idx → EReal) (V : Valuation τ sig (Elt Ideal)) (n : ℕ) : Prop where
  arr : V (Proc.devRef .tc main_v3_0) = (A : S8192x512.Idx → EReal)
  ctr : V (Proc.devRef .tc main_v3_1) = (fun _ => BitVec.ofNat 32 n : S_.Idx → BitVec 32)
  tot : V (Proc.devRef .tc main_v3_2) = (fun l => prefixProd A (l 0) n : S512.Idx → EReal)
  out : V (Proc.devRef .tc main_v3_3) = (fun j => if (j 0).val < n then scanned A j else 0 : S8192x512.Idx → EReal)

/-- Row `n` of `A`, read by the slice whose start is the counter. -/
theorem slice_row (A : S8192x512.Idx → EReal) (n : ℕ) (hn : n < 8192) (st : Fin 2 → Int) (h : S8192x512.Slices (fun _ => 0) S1x512)
    (h0 : st 0 = n) (h1 : st 1 = 0) (l : Fin 512) : Host.dynamicSlice S1x512 A st h (ix2 0 l) = entry A l n := by
  unfold entry
  rw [dif_pos hn]
  refine congrArg A (Shape.idx_ext₂ ?_ ?_)
  · show (min (max (st 0) 0) ((8192 - 1 : Nat) : Int)).toNat + 0 = n
    rw [h0]; omega
  · show (min (max (st 1) 0) ((512 - 512 : Nat) : Int)).toNat + l.val = l.val
    rw [h1]; simp

/-- A row read as a vector. -/
theorem shapeCast_vec_of_row (x : S1x512.Idx → EReal) (h : S1x512.ShapeCasts S512) (l : S512.Idx) :
    shapeCast S512 x h l = x (ix2 0 (l 0)) := by
  simp only [pointwise]

/-- The running products after trip `n`. -/
theorem tot_step {A : S8192x512.Idx → EReal} {V : Valuation τ sig (Elt Ideal)} {n : ℕ} (hn : n < 8192) (h : Inv A V n) :
    res_main_while0b_v5 V = (fun l => prefixProd A (l 0) (n + 1) : S512.Idx → EReal) := by
  unfold res_main_while0b_v5
  rw [h.arr, h.ctr, h.tot]
  funext l
  refine Eq.trans ?_ (prefixProd_succ A (l 0) n).symm
  refine congrArg (prefixProd A (l 0) n * ·) ?_
  refine (shapeCast_vec_of_row _ shapeCasts_S1x512_S512 l).trans (slice_row A n hn _ sliceFits_S8192x512_S1x512 ?_ rfl (l 0))
  exact toInt_ofNat_of_lt (by omega)

/-- Row `n` of the result is written by trip `n`, and no other. -/
theorem update_row (A B : S8192x512.Idx → EReal) (u : S1x512.Idx → EReal) (n : ℕ) (hn : n < 8192) (st : Fin 2 → Int)
    (h : S8192x512.Slices (fun _ => 0) S1x512) (h0 : st 0 = n) (h1 : st 1 = 0) (j : S8192x512.Idx) :
    Host.dynamicUpdateSlice B u st h j = if (j 0).val = n then u (ix2 0 (j 1)) else B j := by
  rw [Host.dynamicUpdateSlice_eq_updateSlice B u st h ![n, 0] (fun a => by
    match a with
    | ⟨0, _⟩ => show (min (max (st 0) 0) ((8192 - 1 : Nat) : Int)).toNat = n; rw [h0]; omega
    | ⟨1, _⟩ => show (min (max (st 1) 0) ((512 - 512 : Nat) : Int)).toNat = 0; rw [h1]; rfl)
    ⟨rfl, fun a => by
      match a with
      | ⟨0, _⟩ => show n + 1 ≤ 8192; omega
      | ⟨1, _⟩ => show 0 + 512 ≤ 512; omega⟩]
  unfold updateSlice
  by_cases hj : (j 0).val = n
  · rw [if_pos hj, dif_pos (fun a => by
      match a with
      | ⟨0, _⟩ => show n ≤ (j 0).val ∧ (j 0).val < n + 1; omega
      | ⟨1, _⟩ => exact ⟨Nat.zero_le _, (by show (j 1).val < 0 + 512; have := (j 1).isLt; show (j 1).val < 512; exact this)⟩)]
    refine congrArg u (Shape.idx_ext₂ ?_ ?_)
    · show (j 0).val - n = 0; omega
    · show (j 1).val - 0 = (j 1).val; omega
  · rw [if_neg hj, dif_neg (fun hin => hj (by
      have := hin 0
      have h' : n ≤ (j 0).val ∧ (j 0).val < n + 1 := this
      omega))]

theorem inv_step {A : S8192x512.Idx → EReal} {V : Valuation τ sig (Elt Ideal)} {n : ℕ} (hn : n < 8192) (h : Inv A V n) :
    Inv A (STEP V) (n + 1) where
  arr := (STEP_main_v3_0 V).trans h.arr
  ctr := by
    rw [STEP_main_v3_1]; unfold step_main_v3_1; rw [h.ctr]
    funext i
    show BitVec.ofNat 32 n + 1#32 = BitVec.ofNat 32 (n + 1)
    simp only [BitVec.ofNat_add]
  tot := by rw [STEP_main_v3_2]; exact tot_step hn h
  out := by
    rw [STEP_main_v3_3]; unfold step_main_v3_3
    rw [tot_step hn h, h.out, h.ctr]
    funext j
    refine (update_row A _ _ n hn _ updateFits_S8192x512_S1x512 (toInt_ofNat_of_lt (by omega)) rfl j).trans ?_
    by_cases hj : (j 0).val = n
    · rw [if_pos hj, if_pos (by omega)]
      unfold scanned
      rw [hj]
      rfl
    · rw [if_neg hj]
      exact if_congr (by omega) rfl rfl

variable (m : (ℓ : Loc nD τ sig) → Buf (Elt Ideal) ℓ) (c : Dev nD)

theorem inv_entry : Inv (m ((c.tc : Thread nD τ).loc main_arg0) : S8192x512.Idx → EReal) (entryContents preI m c) 0 where
  arr := by simp only [entryContents, afterL_cons, afterL_nil]; after_reads_simp; rfl
  ctr := ctr_entry m c
  tot := by
    simp only [entryContents, afterL_cons, afterL_nil]; after_reads_simp
    funext l
    exact Ideal.ofBits_one_f32
  out := by
    simp only [entryContents, afterL_cons, afterL_nil]; after_reads_simp
    funext l
    exact Ideal.ofBits_zero_f32

theorem inv_iter : ∀ n, n ≤ 8192 → Inv (m ((c.tc : Thread nD τ).loc main_arg0) : S8192x512.Idx → EReal) (STEP^[n] (entryContents preI m c)) n
  | 0, _ => inv_entry m c
  | n + 1, h => by
    rw [Function.iterate_succ_apply']
    exact inv_step (Nat.lt_of_succ_le h) (inv_iter n (Nat.le_of_succ_le h))

/-- Every execution of the reference ends with its result the prefix products of its argument, which is unchanged. -/
theorem run_scan (ρ : Dev nD → PrngReg) : θ_run (defs (F := Ideal)) (onTc (τ := τ) (main (F := Ideal))) ⟨m, fun _ => 0, ρ⟩ fun r => ∀ c : Dev nD,
      r.2.mem ((c.tc : Thread nD τ).loc main_v3_3) = scanned (m ((c.tc : Thread nD τ).loc main_arg0))
      ∧ r.2.mem ((c.tc : Thread nD τ).loc main_arg0) = m ((c.tc : Thread nD τ).loc main_arg0) :=
  (θ_run defs _ _).mono (fun _ h c => ⟨(h c).1.trans ((inv_iter m c 8192 le_rfl).out.trans (funext fun j => if_pos (j 0).isLt)), (h c).2⟩)
    (Value.run m ρ)

end Cert.Prefix.Scan

end
-- ==== Proof.Algebra.lean ====
/-
The kernel's result over the extended reals is the reference's, when no factor is negative.
-/
module

public import proofs.«01_k».proof.Defs
public import proofs.«01_k».proof.Proof.Run
public import proofs.«01_k».proof.Proof.LineProduct
public import proofs.«01_k».proof.Proof.ScanValue
public import proofs.«01_k».proof.Proof.Gen.Pre_nonneg_KernelIdeal

@[expose] public section

set_option maxRecDepth 100000

noncomputable section

namespace Cert.Prefix

open Cert.KernelIdeal Cert.KernelIdeal.Gen
open Idealize.ShloMosaic Idealize.ShloMosaic.TcCoe
open Idealize.SL.Sem
open scoped BigOperators

section Whole

variable {F : FTy → Type} [FloatOps F] (m : (ℓ : Loc nD τ sig) → Buf (Elt F) ℓ) (ρ : Dev nD → PrngReg)

/-- The block that a device's kernel reads is its whole argument. -/
theorem xstg_eq (c : Dev nD) : xstg m ρ c = m ((c : Thread nD τ).loc main_arg0) := by
  have hz : (fun a => (win0_0.index (0 : Fin 1)) a * main_arg0.ty.shape.size a) = fun _ => 0 := by
    funext a; fin_cases a <;> decide
  unfold xstg s₀
  exact Memref.read_access_unit_zero (Elt F) main_arg0 hz (fun a => by fin_cases a <;> decide) _

/-- The result array of a device ends as its kernel's result. -/
theorem finalA_o (c : Dev nD) : finalA m ρ c (1 : Fin 2) = outAt m ρ c := by
  have hz : (fun a => (win0_1.index (0 : Fin 1)) a * main_v1.ty.shape.size a) = fun _ => 0 := by
    funext a; fin_cases a <;> decide
  have hb : (win0_1.blk (0 : Fin 1)).view.read (Elt F) (finalA m ρ c (1 : Fin 2)) = outAt m ρ c := by
    unfold finalA
    rw [show cfg0.N = (0 : Fin 1).val + 1 from rfl, (dats m ρ 0 c).arrAt_succ (1 : Fin 2) (0 : Fin 1),
      if_pos (show (cfg0.win (1 : Fin 2)).flush (0 : Fin 1) = true by decide)]
    exact View.read_write_univ _ _
  exact (Memref.read_access_unit_zero (Elt F) main_v1 hz (fun a => by fin_cases a <;> decide) _).symm.trans hb

end Whole

/-- The precondition read at an entry: it is not negative. -/
theorem nonneg_of_pre {x : S512x512.Idx → EReal}
    (h : Cert.Pre_nonneg_KernelIdeal.fn (F := Ideal) x = fun _ => 1#1) (j : S512x512.Idx) : 0 ≤ x j := by
  have hj : BitVec.ofBool (decide (Ideal.ofBits .bf16 0x0000#16 ≤ x j)) = 1#1 := congrFun h j
  rw [Ideal.ofBits_zero_bf16] at hj
  by_contra hn
  rw [decide_eq_false hn] at hj
  exact absurd hj (by decide)

/-- The block of device `c` of the whole array `A`. -/
abbrev rowsOf (A : (⟨2, ![8192, 512]⟩ : Shape).Idx → EReal) (c : Dev nD) : S512x512.Idx → EReal :=
  Layout.block ⟨2, ![512, 512]⟩ ⟨2, ![8192, 512]⟩ 0 16 c A

/-- Every device ends with its block of the array of running products. -/
theorem outAt_block (m : (ℓ : Loc nD τ sig) → Buf (Elt Ideal) ℓ) (ρ : Dev nD → PrngReg) (A : (⟨2, ![8192, 512]⟩ : Shape).Idx → EReal)
    (hA : ∀ c : Dev nD, m ((c : Thread nD τ).loc main_arg0) = rowsOf A c)
    (hpos : ∀ (c : Dev nD) (j : S512x512.Idx), 0 ≤ rowsOf A c j) (c : Dev nD) :
    outAt (F := Ideal) m ρ c = rowsOf (Scan.scanned A) c := by
  funext j
  rw [eq_ix2 j]
  refine (outAt_apply m ρ (rowsOf A) (Scan.entry A)
    (fun d => (xstg_eq m ρ d).trans (hA d)) ?_ hpos c (j 0) (j 1)).trans ?_
  · intro d k l
    have hlt : d.val * 512 + k.val < 8192 := by have := d.isLt; have h16 : d.val < 16 := this; omega
    unfold Scan.entry
    rw [dif_pos hlt]
    exact congrArg A (Shape.idx_ext₂ rfl rfl)
  · rfl

/-- The sixteen devices compute what the reference computes: the running products of the rows, each device its block. -/
theorem algebraic :
    Cert.algebraic_KernelIdeal_ReferenceIdeal_pre_nonneg_KernelIdeal (hKernelIdeal := Cert.KernelIdeal.Gen.facts)
      (hReferenceIdeal := Cert.ReferenceIdeal.Gen.facts) (hPre_nonneg_KernelIdeal := Cert.Pre_nonneg_KernelIdeal.Gen.facts) := by
  intro m g m' g' hpre hA
  have hpos : ∀ (c : Dev nD) (j : S512x512.Idx), 0 ≤ rowsOf
      (m' (((0 : Dev Cert.ReferenceIdeal.nD).tc : Thread Cert.ReferenceIdeal.nD Cert.ReferenceIdeal.τ).loc Cert.ReferenceIdeal.main_arg0)) c j :=
    fun c j => nonneg_of_pre ((congrArg _ (hA c).symm).trans (hpre c)) j
  refine ⟨Scan.scanned (m' (((0 : Dev Cert.ReferenceIdeal.nD).tc : Thread Cert.ReferenceIdeal.nD Cert.ReferenceIdeal.τ).loc Cert.ReferenceIdeal.main_arg0)), ?_, ?_⟩
  · exact (θ_run Cert.KernelIdeal.defs _ _).mono (fun r h c =>
      ⟨(h.1 c 1).trans ((finalA_o m g c).trans (outAt_block m g _ hA hpos c)), (h.1 c 0).trans (finalA_x m g c)⟩) (run_main m g)
  · exact (θ_run Cert.ReferenceIdeal.defs _ _).mono (fun r h => h 0) (Scan.run_scan m' g')

end Cert.Prefix

end
-- ==== Proof.lean ====
/-
The proof of the certificate's claims: the frames of the three programs, the idealization of the kernel, and the equality
of the kernel's result with the reference's over the extended reals.
-/
module

public import proofs.«01_k».proof.Defs
public import proofs.«01_k».proof.Proof.Frames
public import proofs.«01_k».proof.Proof.Algebra
public import proofs.«01_k».proof.Proof.Gen.Kernel.Launch
public import proofs.«01_k».proof.Proof.Gen.KernelIdeal.Launch
public import proofs.«01_k».proof.Proof.Gen.ReferenceIdeal.Run
public import proofs.«01_k».proof.Proof.Gen.Pre_nonneg_KernelIdeal
public import proofs.«01_k».proof.Proof.Gen.Pre_nonneg_ReferenceIdeal

@[expose] public section

noncomputable section

namespace Cert.Proof

theorem claim : Cert.Claim :=
  ⟨Cert.Kernel.Gen.facts, Cert.KernelIdeal.Gen.facts, Cert.ReferenceIdeal.Gen.facts, Cert.Pre_nonneg_KernelIdeal.Gen.facts,
    Cert.Pre_nonneg_ReferenceIdeal.Gen.facts, Cert.Prefix.frame_kernel, Cert.Prefix.frame_kernelIdeal,
    fun m g _ => Cert.Prefix.kernel_frame m g, Cert.Prefix.frame_referenceIdeal,
    fun m g _ => Cert.Prefix.frame_referenceIdeal m g trivial, trivial, Cert.Prefix.algebraic⟩

end Cert.Proof

end
